-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S1638400 : Shape := ⟨1, ![1638400]⟩
abbrev S3200 : Shape := ⟨1, ![3200]⟩
abbrev S_ : Shape := ⟨0, ![]⟩

class Facts : Prop where
  bcast_S_S1638400 : S_.BroadcastsInDim S1638400 (![] : Fin 0 → Fin S1638400.rank)
  reducesTo_S1638400_S_d0 : S1638400.ReducesTo [0] S_
  h_S_ : 0 < S_.numel
  bcast_S_S3200 : S_.BroadcastsInDim S3200 (![] : Fin 0 → Fin S3200.rank)
  reducesTo_S3200_S_d0 : S3200.ReducesTo [0] S_

variable [Facts]

def fn {F : FTy → Type} [FloatOps F] (main_arg0 : FVec F S1638400 .f32) (main_arg1 : FVec F S3200 .f32) (main_arg2 : IVec S1638400 32) (main_arg3 : IVec S3200 32) : IVec S_ 1 :=
  let main_c : IVec S_ 32 := constantI S_ 32 0#32
  let main_v0 : IVec S1638400 32 := broadcastInDim S1638400 ![] bcast_S_S1638400 main_c
  let main_v1 : IVec S1638400 1 := cmpi .sge main_arg2 main_v0
  let main_c_0 : IVec S_ 32 := constantI S_ 32 3200#32
  let main_v2 : IVec S1638400 32 := broadcastInDim S1638400 ![] bcast_S_S1638400 main_c_0
  let main_v3 : IVec S1638400 1 := cmpi .slt main_arg2 main_v2
  let main_v4 : IVec S1638400 1 := andi main_v1 main_v3
  let main_c_1 : IVec S_ 1 := constantI S_ 1 1#1
  let main_v5 : IVec S_ 1 := (fun x v => Host.reduce IntOp.andi x v reducesTo_S1638400_S_d0 h_S_) main_v4 main_c_1
  let main_c_2 : IVec S_ 32 := constantI S_ 32 0#32
  let main_v6 : IVec S3200 32 := broadcastInDim S3200 ![] bcast_S_S3200 main_c_2
  let main_v7 : IVec S3200 1 := cmpi .sge main_arg3 main_v6
  let main_c_3 : IVec S_ 32 := constantI S_ 32 16#32
  let main_v8 : IVec S3200 32 := broadcastInDim S3200 ![] bcast_S_S3200 main_c_3
  let main_v9 : IVec S3200 1 := cmpi .slt main_arg3 main_v8
  let main_v10 : IVec S3200 1 := andi main_v7 main_v9
  let main_c_4 : IVec S_ 1 := constantI S_ 1 1#1
  let main_v11 : IVec S_ 1 := (fun x v => Host.reduce IntOp.andi x v reducesTo_S3200_S_d0 h_S_) main_v10 main_c_4
  let main_v12 : IVec S_ 1 := andi main_v5 main_v11
  main_v12
-- ==== Kernel.lean ====
abbrev S1638400 : Shape := ⟨1, ![1638400]⟩
abbrev S3200 : Shape := ⟨1, ![3200]⟩
abbrev S32x3200 : Shape := ⟨2, ![32, 3200]⟩
abbrev S51200 : Shape := ⟨1, ![51200]⟩
abbrev S_ : Shape := ⟨0, ![]⟩
abbrev S16 : Shape := ⟨1, ![16]⟩
abbrev S1x3200 : Shape := ⟨2, ![1, 3200]⟩
abbrev S1x1 : Shape := ⟨2, ![1, 1]⟩
abbrev S1x1x3200 : Shape := ⟨3, ![1, 1, 3200]⟩
abbrev S1 : Shape := ⟨1, ![1]⟩
abbrev S1x1x1 : Shape := ⟨3, ![1, 1, 1]⟩

abbrev nBuf : Table → Nat
  | .hbm => 9
  | .local .tc .vmem => 4
  | .local .scVector .vmem => 3
  | _ => 0

abbrev bufTy : (tb : Table) → Fin (nBuf tb) → BufTy
  | .hbm, ⟨0, _⟩ => ⟨S1638400, .f32⟩
  | .hbm, ⟨1, _⟩ => ⟨S3200, .f32⟩
  | .hbm, ⟨2, _⟩ => ⟨S1638400, .i32⟩
  | .hbm, ⟨3, _⟩ => ⟨S3200, .i32⟩
  | .hbm, ⟨4, _⟩ => ⟨S32x3200, .f32⟩
  | .hbm, ⟨5, _⟩ => ⟨S1x3200, .f32⟩
  | .hbm, ⟨6, _⟩ => ⟨S1x3200, .i32⟩
  | .hbm, ⟨7, _⟩ => ⟨S1x1, .f32⟩
  | .hbm, ⟨8, _⟩ => ⟨S_, .f32⟩
  | .local .tc .vmem, ⟨0, _⟩ => ⟨S32x3200, .f32⟩
  | .local .tc .vmem, ⟨1, _⟩ => ⟨S1x3200, .f32⟩
  | .local .tc .vmem, ⟨2, _⟩ => ⟨S1x3200, .i32⟩
  | .local .tc .vmem, ⟨3, _⟩ => ⟨S1x1, .f32⟩
  | .local .scVector .vmem, ⟨0, _⟩ => ⟨S51200, .f32⟩
  | .local .scVector .vmem, ⟨1, _⟩ => ⟨S51200, .i32⟩
  | .local .scVector .vmem, ⟨2, _⟩ => ⟨S3200, .f32⟩
  | _, _ => ⟨S1638400, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_arg2_scv : Ref sig .scVector := ⟨.hbm, 2, rfl⟩
abbrev main_v0_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem3_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c51200_i32 : BitVec 32 := 51200#32
  let v2 : BitVec 32 := Scalar.muli v1 c51200_i32
  ![v2.toNat]
@[reducible] def k0_t1_loop : Scf.Loop 32 :=
  let c0_i32 : BitVec 32 := 0#32
  let c200_i32 : BitVec 32 := 200#32
  let v3 : BitVec 32 := Scalar.addi c0_i32 c200_i32
  let c1_i32 : BitVec 32 := 1#32
  ⟨c0_i32, v3, c1_i32⟩
def k0_off2 (k0_t1 : Fin k0_t1_loop.trips) : Fin 1 → Nat :=
  let c0_i32 : BitVec 32 := 0#32
  let c1_i32 : BitVec 32 := 1#32
  let arg8 : BitVec 32 := Scf.iv c0_i32 c1_i32 k0_t1
  let c16_i32 : BitVec 32 := 16#32
  let v6 : BitVec 32 := Scalar.muli arg8 c16_i32
  let v7 : Index := Scalar.indexCast v6
  ![v7.toNat]
@[reducible] def k0_t2_loop : Scf.Loop 32 :=
  let c0_i32_1 : BitVec 32 := 0#32
  let c3200_i32 : BitVec 32 := 3200#32
  let v4 : BitVec 32 := Scalar.addi c0_i32_1 c3200_i32
  let c1_i32_2 : BitVec 32 := 1#32
  ⟨c0_i32_1, v4, c1_i32_2⟩
def k0_off3 (k0_t2 : Fin k0_t2_loop.trips) : Fin 1 → Nat :=
  let c0_i32_1 : BitVec 32 := 0#32
  let c1_i32_2 : BitVec 32 := 1#32
  let arg8 : BitVec 32 := Scf.iv c0_i32_1 c1_i32_2 k0_t2
  let c16_i32 : BitVec 32 := 16#32
  let v5 : BitVec 32 := Scalar.muli arg8 c16_i32
  let v6 : Index := Scalar.indexCast v5
  ![v6.toNat]

def k0_chk1 (v7 : IVec S16 32) : Prop :=
  (∀ a x, ((![v7] : Fin 1 → IVec S16 32) a x).toNat < S3200.size a)
theorem k0_idx1_inb : ∀ (v7 : IVec S16 32) (k0_hw1 : k0_chk1 v7), ∀ a x, ((![v7] : Fin 1 → IVec S16 32) a x).toNat < S3200.size a := fun v7 k0_hw1 => k0_hw1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r2 : BitVec 32 := 0#32
  ![v1.toNat, 0]
abbrev grid1 : Pipeline.Grid := .none

abbrev stage1_0 : Fin 1 → Memref sig .tc .vmem S32x3200 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x3200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x3200 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1638400 : Shape := ⟨1, ![1638400]⟩
abbrev S3200 : Shape := ⟨1, ![3200]⟩
abbrev S_ : Shape := ⟨0, ![]⟩
abbrev S1638400x1 : Shape := ⟨2, ![1638400, 1]⟩
abbrev S16 : Shape := ⟨1, ![16]⟩
abbrev S3200x1 : Shape := ⟨2, ![3200, 1]⟩
abbrev S1 : Shape := ⟨1, ![1]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S1638400, .f32⟩
  | .hbm, ⟨1, _⟩ => ⟨S3200, .f32⟩
  | .hbm, ⟨2, _⟩ => ⟨S1638400, .i32⟩
  | .hbm, ⟨3, _⟩ => ⟨S3200, .i32⟩
  | .hbm, ⟨4, _⟩ => ⟨S_, .f32⟩
  | .hbm, ⟨5, _⟩ => ⟨S3200, .f32⟩
  | .hbm, ⟨6, _⟩ => ⟨S1638400x1, .i32⟩
  | .hbm, ⟨7, _⟩ => ⟨S3200, .f32⟩
  | .hbm, ⟨8, _⟩ => ⟨S_, .f32⟩
  | .hbm, ⟨9, _⟩ => ⟨S3200, .f32⟩
  | .hbm, ⟨10, _⟩ => ⟨S3200, .f32⟩
  | .hbm, ⟨11, _⟩ => ⟨S3200, .f32⟩
  | .hbm, ⟨12, _⟩ => ⟨S_, .f32⟩
  | .hbm, ⟨13, _⟩ => ⟨S16, .f32⟩
  | .hbm, ⟨14, _⟩ => ⟨S3200x1, .i32⟩
  | .hbm, ⟨15, _⟩ => ⟨S16, .f32⟩
  | .hbm, ⟨16, _⟩ => ⟨S16, .f32⟩
  | .hbm, ⟨17, _⟩ => ⟨S_, .i32⟩
  | .hbm, ⟨18, _⟩ => ⟨S3200, .i32⟩
  | .hbm, ⟨19, _⟩ => ⟨S3200, .i1⟩
  | .hbm, ⟨20, _⟩ => ⟨S_, .i32⟩
  | .hbm, ⟨21, _⟩ => ⟨S3200, .i32⟩
  | .hbm, ⟨22, _⟩ => ⟨S3200, .i32⟩
  | .hbm, ⟨23, _⟩ => ⟨S3200, .i32⟩
  | .hbm, ⟨24, _⟩ => ⟨S3200x1, .i32⟩
  | .hbm, ⟨25, _⟩ => ⟨S1, .i32⟩
  | .hbm, ⟨26, _⟩ => ⟨S_, .i32⟩
  | .hbm, ⟨27, _⟩ => ⟨S3200x1, .i32⟩
  | .hbm, ⟨28, _⟩ => ⟨S3200x1, .i1⟩
  | .hbm, ⟨29, _⟩ => ⟨S1x1, .i32⟩
  | .hbm, ⟨30, _⟩ => ⟨S3200x1, .i32⟩
  | .hbm, ⟨31, _⟩ => ⟨S3200x1, .i1⟩
  | .hbm, ⟨32, _⟩ => ⟨S3200x1, .i1⟩
  | .hbm, ⟨33, _⟩ => ⟨S_, .i1⟩
  | .hbm, ⟨34, _⟩ => ⟨S3200, .i1⟩
  | .hbm, ⟨35, _⟩ => ⟨S3200, .f32⟩
  | .hbm, ⟨36, _⟩ => ⟨S_, .f32⟩
  | .hbm, ⟨37, _⟩ => ⟨S3200, .f32⟩
  | .hbm, ⟨38, _⟩ => ⟨S3200, .f32⟩
  | .hbm, ⟨39, _⟩ => ⟨S3200, .f32⟩
  | .hbm, ⟨40, _⟩ => ⟨S3200, .f32⟩
  | .hbm, ⟨41, _⟩ => ⟨S3200, .f32⟩
  | .hbm, ⟨42, _⟩ => ⟨S_, .f32⟩
  | .hbm, ⟨43, _⟩ => ⟨S_, .f32⟩
  | _, _ => ⟨S1638400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩

abbrev nD : Nat := 1
abbrev τ : Topo := Topo.v7x

variable {F : FTy → Type} [FloatOps F]
-- ==== Proof.IdealTile.lean ====
/-
  One tile's task of the SparseCore call, with the value it leaves.

  A tile copies its 51200 scores and its 51200 path numbers into its own memory, clears 3200 accumulators,
  adds every score onto the accumulator its path number names, sixteen at a time, and copies the 3200
  accumulators into its row of the partial sums. `tileAcc` is that row as a function of the launch memory;
  `tile_body` runs the task and leaves the row at `outW`, whose row `w` is the `tileAcc` of the tile numbered `w`.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.Tactic
public import Idealize.ShloMosaic.Lib.ValueIdx

@[expose] public section

noncomputable section

namespace Cert.Proof.SideIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the tail pipeline's rounds, the local transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The tail pipeline's rounds library: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the buffers -/

variable (m : (ℓ : Loc nD τ sig) → Buf (Elt F) ℓ)

/-- The three arrays and the tile's three scratches, whole. -/
abbrev aM : Memref sig .scVector .hbm S1638400 .f32 := Memref.whole main_arg0_scv
abbrev uM : Memref sig .scVector .hbm S1638400 .i32 := Memref.whole main_arg2_scv
abbrev oM : Memref sig .scVector .hbm S32x3200 .f32 := Memref.whole main_v0_scv
abbrev sA : Memref sig .scVector .vmem S51200 .f32 := Memref.whole cc0_scratch0
abbrev sU : Memref sig .scVector .vmem S51200 .i32 := Memref.whole cc0_scratch1
abbrev sP : Memref sig .scVector .vmem S3200 .f32 := Memref.whole cc0_scratch2

/-- The scores, the path numbers and the partial sums, as locations of device `d`. -/
abbrev aLoc (d : Dev nD) : Loc nD τ sig := (SparseCore.T d).loc main_arg0
abbrev uLoc (d : Dev nD) : Loc nD τ sig := (SparseCore.T d).loc main_arg2
abbrev oLoc (d : Dev nD) : Loc nD τ sig := (SparseCore.T d).loc main_v0

/-- The 51200 arcs of the tile at `L`, and its row of the partial sums. -/
abbrev aRect (L : grid0.Coords) : Rect S1638400 := Rect.unit (s := S1638400) (k0_off1 L) S51200.size (k0_off1_inb L)
abbrev oRect (L : grid0.Coords) : Rect S32x3200 := Rect.unit (s := S32x3200) (k0_off4 L) S1x3200.size (k0_off4_inb L)
abbrev aK (L : grid0.Coords) : Memref sig .scVector .hbm S51200 .f32 := aM.slice (aRect L) (fun _ => rfl)
abbrev uK (L : grid0.Coords) : Memref sig .scVector .hbm S51200 .i32 := uM.slice (aRect L) (fun _ => rfl)
abbrev oK (L : grid0.Coords) : Memref sig .scVector .hbm S3200 .f32 := (oM.slice (oRect L) (fun _ => rfl)).squeeze S3200 squeezes_S1x3200_S3200

/-- The tile at core `c` and subcore `s`; its number `2 s + c`, and the tile with a given number. -/
def coordsV (c : Fin (grid0.bound 0)) (s : Fin (grid0.bound 1)) : grid0.Coords :=
  fun | 0 => c | 1 => s | ⟨_ + 2, h⟩ => absurd h (Nat.not_lt.2 (Nat.le_add_left _ _))
theorem bound_zero : grid0.bound 0 = 2 := rfl
theorem bound_one : grid0.bound 1 = 16 := rfl
def tileNo (L : grid0.Coords) : ℕ := 2 * (L 1).val + (L 0).val
def tileOf (w : Fin 32) : grid0.Coords :=
  coordsV ⟨w.val % 2, by rw [bound_zero]; omega⟩ ⟨w.val / 2, by rw [bound_one]; omega⟩
theorem tileNo_lt (L : grid0.Coords) : tileNo L < 32 := by
  have h0 : (L 0).val < 2 := (L 0).isLt
  have h1 : (L 1).val < 16 := (L 1).isLt
  unfold tileNo; omega
theorem coords_ext {L M : grid0.Coords} (h0 : (L 0).val = (M 0).val) (h1 : (L 1).val = (M 1).val) : L = M := by
  funext a
  match a with
  | 0 => exact Fin.ext h0
  | 1 => exact Fin.ext h1
theorem tileOf_tileNo (L : grid0.Coords) (w : Fin 32) (h : w.val = tileNo L) : tileOf w = L := by
  have h0 : (L 0).val < 2 := (L 0).isLt
  unfold tileNo at h
  refine coords_ext ?_ ?_
  · show w.val % 2 = _; omega
  · show w.val / 2 = _; omega
theorem tileNo_tileOf (w : Fin 32) : tileNo (tileOf w) = w.val := by
  show 2 * (w.val / 2) + w.val % 2 = _; omega

/-- Path `p` as an index of the accumulators. -/
def pix (p : Fin 3200) : S3200.Idx := fun | 0 => p | ⟨_ + 1, h⟩ => absurd h (Nat.not_lt.2 (Nat.le_add_left _ _))

/-- Lane `q` of a sixteen-lane vector. -/
def lix (q : Fin 16) : S16.Idx := fun | 0 => q | ⟨_ + 1, h⟩ => absurd h (Nat.not_lt.2 (Nat.le_add_left _ _))

variable [FloatOps F]

/-- Lanes `16 t … 16 t + 15` of the tile's path numbers, of its scores. -/
def idChunk (u : S51200.Idx → Elt F .i32) (t : Fin k0_t2_loop.trips) : IVec S16 32 :=
  sU.view.readAt (Elt F) (Rect.unit (s := S51200) (k0_off3 t) S16.size (k0_off3_inb t)).toLoadRect u
def scoreChunk (a : S51200.Idx → Elt F .f32) (t : Fin k0_t2_loop.trips) : FVec F S16 .f32 :=
  sA.view.readAt (Elt F) (Rect.unit (s := S51200) (k0_off3 t) S16.size (k0_off3_inb t)).toLoadRect a

open Classical in
/-- One trip of the accumulation: lane by lane, each score added onto the accumulator its path number names. -/
def accStep (a : S51200.Idx → Elt F .f32) (u : S51200.Idx → Elt F .i32) (t : Fin k0_t2_loop.trips) (g : S3200.Idx → Elt F .f32) :
    S3200.Idx → Elt F .f32 :=
  if h : k0_chk1 (idChunk (F := F) u t) then
    storeIdx (F := F) (e := .f32) g ![idChunk (F := F) u t] (scoreChunk a t) (fun _ => 1#1) true (k0_idx1_inb _ h)
  else g

/-- The accumulators after the first `n` trips, from all of them zero. -/
def acc (a : S51200.Idx → Elt F .f32) (u : S51200.Idx → Elt F .i32) : ℕ → S3200.Idx → Elt F .f32
  | 0 => fun _ => Scalar.ofBits .f32 0x00000000#32
  | n + 1 => if h : n < k0_t2_loop.trips then accStep a u ⟨n, h⟩ (acc a u n) else acc a u n

/-- The tile's scores and path numbers, as it copies them in. -/
def tileA (d : Dev nD) (L : grid0.Coords) : S51200.Idx → Elt F .f32 := (aK L).view.read (Elt F) (m (aLoc d))
def tileU (d : Dev nD) (L : grid0.Coords) : S51200.Idx → Elt F .i32 := (uK L).view.read (Elt F) (m (uLoc d))

/-- The tile's 3200 accumulators when it is done. -/
def tileAcc (d : Dev nD) (L : grid0.Coords) : S3200.Idx → Elt F .f32 := acc (tileA m d L) (tileU m d L) k0_t2_loop.trips

/-- The partial sums when every tile is done: row `w` is what tile number `w` accumulated. -/
def outW (d : Dev nD) : Buf (Elt F) (oLoc d) := fun x : S32x3200.Idx => tileAcc m d (tileOf (x 0)) (pix (x 1))

/-- What the run asks of the launch memory: every path number is below 3200. -/
def PreOK : Prop := ∀ (d : Dev nD) (x : S1638400.Idx), (m (uLoc d) x : BitVec 32).toNat < 3200

/-! ## Where the tile's views land -/

omit [FloatOps F] in
/-- The entry of the partial sums that lane `y` of the tile's row is: row `tileNo L`, column `y`. -/
theorem oK_emb (L : grid0.Coords) (y : S3200.Idx) :
    (((oK L).view.emb y : S32x3200.Idx) 0).val = tileNo L ∧ (((oK L).view.emb y : S32x3200.Idx) 1).val = (y 0).val := by
  have hz : ∀ z : S1x3200.Idx, z = Shape.reshapeEquiv squeezes_S1x3200_S3200.numel_eq y → (z 1).val = (y 0).val := by
    intro z hz
    have h1 := congrArg (fun q => (S1x3200.rowMajor q).val) hz
    simp only [Shape.rowMajor_reshapeEquiv] at h1
    rw [Shape.rowMajor_val_two, Shape.rowMajor_val_one] at h1
    have h0 : (z 0).val < 1 := (z 0).isLt
    simp at h1
    omega
  have hz' := hz _ rfl
  have hr : (Shape.reshapeEquiv squeezes_S1x3200_S3200.numel_eq y : S1x3200.Idx) 0 = (0 : Fin 1) := Subsingleton.elim (α := Fin 1) _ _
  refine ⟨?_, ?_⟩
  · show k0_off4 L 0 + 1 * ((Shape.reshapeEquiv squeezes_S1x3200_S3200.numel_eq y : S1x3200.Idx) 0).val = _
    rw [hr, k0_off4_eq]; rfl
  · show k0_off4 L 1 + 1 * ((Shape.reshapeEquiv squeezes_S1x3200_S3200.numel_eq y : S1x3200.Idx) 1).val = _
    rw [hz', k0_off4_eq]; simp

omit [FloatOps F] in
/-- The arc that lane `y` of the tile's block is: number `51200 · tileNo L + y`. -/
theorem aRect_emb (L : grid0.Coords) (y : S51200.Idx) :
    (((aRect L).emb y : S1638400.Idx) 0).val = 51200 * tileNo L + (y 0).val := by
  show k0_off1 L 0 + 1 * (y 0).val = _
  rw [k0_off1_eq]; unfold tileNo; simp; omega

/-- Every path number a tile reads is below 3200, so each trip's check passes. -/
theorem idChunk_ok (hpre : PreOK m) (d : Dev nD) (L : grid0.Coords) (t : Fin k0_t2_loop.trips) :
    k0_chk1 (idChunk (F := F) (tileU m d L) t) := by
  intro a x
  obtain rfl : a = 0 := Subsingleton.elim _ _
  exact hpre d _

/-! ## The task's own cells and buffers -/

section Tile

variable (d : Dev nD) (L : grid0.Coords)

abbrev cV (L : grid0.Coords) : Fin τ.nSC := (L 0).castLE hcore0
abbrev jV (L : grid0.Coords) : Fin τ.nSub := (L 1).castLE hsub0
/-- The thread that runs the task at `L`. -/
abbrev thr (d : Dev nD) (L : grid0.Coords) : Thread nD τ := V d (cV L) (jV L)
abbrev cell0 (d : Dev nD) (L : grid0.Coords) : GSem nD τ sig := (thr d L, .dma cc0_scoped0.sem)
abbrev cell1 (d : Dev nD) (L : grid0.Coords) : GSem nD τ sig := (thr d L, .dma cc0_scoped1.sem)
abbrev cell2 (d : Dev nD) (L : grid0.Coords) : GSem nD τ sig := (thr d L, .dma cc0_scoped2.sem)

omit [FloatOps F] in
theorem cell_ne {s s' : DmaSem sig} (h : s ≠ s') : ((thr d L, SemLoc.dma s) : GSem nD τ sig) ≠ (thr d L, SemLoc.dma s') :=
  fun e => h (SemLoc.dma.inj (congrArg Prod.snd e))

omit [FloatOps F] in
/-- The task's three DMA cells taken out of its own. -/
theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  have m0 : cell0 d L ∈ ownCells (thr d L) := mem_ownCells.mpr ⟨rfl, by
    show (SemLoc.dma cc0_scoped0.sem : SemLoc sig).isScoped .scVector = true; decide⟩
  have m1 : cell1 d L ∈ ownCells (thr d L) := mem_ownCells.mpr ⟨rfl, by
    show (SemLoc.dma cc0_scoped1.sem : SemLoc sig).isScoped .scVector = true; decide⟩
  have m2 : cell2 d L ∈ ownCells (thr d L) := mem_ownCells.mpr ⟨rfl, by
    show (SemLoc.dma cc0_scoped2.sem : SemLoc sig).isScoped .scVector = true; decide⟩
  have n10 : cell1 d L ≠ cell0 d L := cell_ne d L (by decide)
  have n20 : cell2 d L ≠ cell0 d L := cell_ne d L (by decide)
  have n21 : cell2 d L ≠ cell1 d L := cell_ne d L (by decide)
  unfold SparseCore.Cfg.ownSems0
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩)]

/-- The task's buffer named `r`. -/
abbrev bufV (L : grid0.Coords) (r : Ref sig .scVector) : DevRef τ sig := (Proc.scVector (cV L) (jV L)).devRef r

omit [FloatOps F] in
/-- The task's three scratches taken out of its own buffers. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (bufV L cc0_scratch0)).erase (bufV L cc0_scratch1)).erase (bufV L cc0_scratch2))
              fun b => iprop(∃ f, ((d, b) : Loc nD τ sig) ↦{fullShare} f)) := by
  have ne : ∀ {r r' : Ref sig .scVector}, r ≠ r' → bufV L r ≠ bufV L r' := fun h e => h (Proc.devRef_injective _ e)
  have m0 : bufV L cc0_scratch0 ∈ ownRefs (τ := τ) (.scVector (cV L) (jV L)) := SparseCore.Cfg.mem_ownRefs_of_owner rfl
  have m1 : bufV L cc0_scratch1 ∈ ownRefs (τ := τ) (.scVector (cV L) (jV L)) := SparseCore.Cfg.mem_ownRefs_of_owner rfl
  have m2 : bufV L cc0_scratch2 ∈ ownRefs (τ := τ) (.scVector (cV L) (jV L)) := SparseCore.Cfg.mem_ownRefs_of_owner rfl
  unfold SparseCore.Cfg.ownBufs
  refine (SparseCore.bigSep_erase' m0).trans ?_
  rw [SparseCore.bigSep_erase' (Finset.mem_erase.mpr ⟨ne (show (cc0_scratch1 : Ref sig .scVector) ≠ cc0_scratch0 by decide), m1⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), m2⟩⟩)]

/-! ## The loops' steps, as equations of contents -/

/-- What the clearing loop has done after `n` trips: the first `16 n` accumulators are zero. -/
def Cleared (n : ℕ) (f : S3200.Idx → Elt F .f32) : Prop := ∀ p : S3200.Idx, (p 0).val < 16 * n → f p = Scalar.ofBits .f32 0x00000000#32

/-- One trip of the clearing loop clears sixteen more. -/
theorem cleared_step (t : Fin k0_t1_loop.trips) (f : S3200.Idx → Elt F .f32) (hf : Cleared t.val f) :
    Cleared (t.val + 1)
      ((sP.access (Rect.unit (s := S3200) (k0_off2 t) S16.size (k0_off2_inb t))).write (Elt F) f (k0_pay1 (F := F)) Finset.univ) := by
  intro p hp
  by_cases hm : p ∈ (sP.access (Rect.unit (s := S3200) (k0_off2 t) S16.size (k0_off2_inb t))).set
  · obtain ⟨x, -, rfl⟩ := Finset.mem_map.mp hm
    rw [View.write_emb_of_mem _ _ (Finset.mem_univ x)]; rfl
  · rw [View.write_of_not_mem _ _ _ hm]
    refine hf p ?_
    by_contra hlt
    refine hm (Finset.mem_map.mpr ⟨lix ⟨(p 0).val - 16 * t.val, by omega⟩, Finset.mem_univ _, ?_⟩)
    funext a
    obtain rfl : a = 0 := Subsingleton.elim _ _
    refine Fin.ext ?_
    show k0_off2 t 0 + 1 * ((p 0).val - 16 * t.val) = (p 0).val
    rw [k0_off2_eq]; simp; omega

/-! ## What the handshakes carry, and the task -/

/-- What a task is handed: its arcs' scores and path numbers, and its row of the partial sums at whatever the launch
    memory has there. -/
abbrev goL (d : Dev nD) (L : grid0.Coords) : sProp 𝕄 :=
  iprop((aLoc d ↦[(aK L).view.set]{fullShare} m (aLoc d)) ∗ (uLoc d ↦[(uK L).view.set]{fullShare} m (uLoc d))
    ∗ (oLoc d ↦[(oK L).view.set]{fullShare} m (oLoc d)))
/-- What a task brings back: the same, its row at what it accumulated. -/
abbrev tdL (d : Dev nD) (L : grid0.Coords) : sProp 𝕄 :=
  iprop((aLoc d ↦[(aK L).view.set]{fullShare} m (aLoc d)) ∗ (uLoc d ↦[(uK L).view.set]{fullShare} m (uLoc d))
    ∗ (oLoc d ↦[(oK L).view.set]{fullShare} outW m d))

/-- The row as the task writes it out is its row of `outW`. -/
theorem row_outW (f : Buf (Elt F) (oLoc d)) :
    ∀ x ∈ (oK L).view.set, (oK L).view.writes (Elt F) f [⟨Rect.whole S3200, tileAcc m d L⟩] x = outW m d x := by
  intro x hx
  obtain ⟨y, -, rfl⟩ := Finset.mem_map.mp hx
  have hw : ((oK L).view.slice (Rect.whole S3200)).emb y = (oK L).view.emb y :=
    congrArg (fun z => (oK L).view.emb z) (Rect.emb_whole_apply S3200 y : (Rect.whole S3200).emb y = y)
  rw [View.writes_singleton, ← hw, View.write_emb_of_mem _ _ (Finset.mem_univ y), hw]
  obtain ⟨h0, h1⟩ := oK_emb L y
  show tileAcc m d L y = tileAcc m d (tileOf ((oK L).view.emb y 0)) (pix ((oK L).view.emb y 1))
  rw [tileOf_tileNo L _ h0]
  congr 1
  funext a
  match a with
  | 0 => exact Fin.ext h1.symm

/-- The clearing loop's invariant: the accumulators held, those reached so far zero. -/
def inv1 (n : Nat) (_ : PUnit) : sProp 𝕄 :=
  iprop(∃ f, ⌜Cleared n f⌝ ∗ (sP.view.loc (thr d L) ↦{fullShare} f))

/-- The accumulating loop's invariant: the fetched scores and path numbers, the accumulators at what the trips so far
    have added up. -/
def inv2 (n : Nat) (_ : PUnit) : sProp 𝕄 :=
  iprop((sA.view.loc (thr d L) ↦{fullShare} tileA m d L) ∗ (sU.view.loc (thr d L) ↦{fullShare} tileU m d L)
    ∗ (sP.view.loc (thr d L) ↦{fullShare} acc (tileA m d L) (tileU m d L) n))

/-- The accumulators as the scatter addresses them. -/
theorem pts_sP (f : Buf (Elt F) (sP.view.loc (thr d L))) :
    (((sP.access (.whole S3200)).loc (thr d L) ↦[(sP.access (.whole S3200)).set]{fullShare} f : sProp 𝕄))
      = (sP.view.loc (thr d L) ↦{fullShare} f) := by
  rw [show (sP.access (.whole S3200)).set = Finset.univ from Memref.set_access_whole (cc0_scratch2 : Ref sig .scVector)]

/-- One scatter is one trip of the accumulation. -/
theorem pts_acc (hpre : PreOK m) (k : Fin k0_t2_loop.trips) :
    (((sP.access (.whole S3200)).loc (thr d L) ↦[(sP.access (.whole S3200)).set]{fullShare}
        ((sP.access (.whole S3200)).write (Elt F) (acc (tileA m d L) (tileU m d L) k.val)
          (storeIdx ((sP.access (.whole S3200)).read (Elt F) (acc (tileA m d L) (tileU m d L) k.val))
            ![idChunk (F := F) (tileU m d L) k] (scoreChunk (tileA m d L) k) (fun _ => 1#1) true
            (k0_idx1_inb _ (idChunk_ok m hpre d L k))) Finset.univ) : sProp 𝕄))
      = (sP.view.loc (thr d L) ↦{fullShare} acc (tileA m d L) (tileU m d L) (k.val + 1)) := by
  rw [pts_sP]
  refine congrArg (fun f => (sP.view.loc (thr d L) ↦{fullShare} f : sProp 𝕄)) ?_
  rw [acc, dif_pos k.isLt, accStep, dif_pos (idChunk_ok m hpre d L k)]
  have hr : (sP.access (.whole S3200)).read (Elt F) (acc (tileA m d L) (tileU m d L) k.val) = acc (tileA m d L) (tileU m d L) k.val :=
    Memref.read_access_whole _ _ _
  rw [hr]
  exact Memref.write_access_whole_univ _ _ _ _

/-- The task at `L`: its arcs copied in, its accumulators cleared, every score added, its row copied out; it ends with
    its row at `outW` and everything else as it was. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goL m d L
        ∗ scopedBufs (thr d L) ∗ scopedSems0 (thr d L) ∗ owes (thr d L) O W)
      ⊢ wp frame (wpE (defs₀ (F := F)) 𝒱₀ (thr d L) none) Set.univ
          (cc0_mwer_segment_sum_sc L (Memref.whole main_arg0_scv) (Memref.isWhole_whole _) (Memref.whole main_arg2_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _) cc0_scoped0 cc0_scoped1 cc0_scoped2)
          fun _ => iprop(tdL m d L ∗ scopedBufs (thr d L) ∗ scopedSems0 (thr d L)
            ∗ ∃ W', ⌜∀ p ∈ W', p ∈ W ∨ p.2 = none⌝ ∗ owes (thr d L) O W') := by
  simp only [cc0_mwer_segment_sum_sc_eq_skeleton]; unfold cc0_mwer_segment_sum_sc_skel
  rw [(K (F := F)).scopedBufs_V hF d (cV L) (jV L), SparseCore.Cfg.scopedSems0_V (Val := Elt F) d (cV L) (jV L), ownSems0_V, ownBufs_V]
  iintro ⟨#Hlv, -, ⟨Ha, Hu, Ho⟩, ⟨⟨%f0, H0⟩, ⟨%f1, H1⟩, ⟨%f2, H2⟩, Hbufs⟩, ⟨Hs0, Hs1, Hs2, Hsems⟩, HO⟩
  ihave Hmw := ((K (F := F)).mayWaits_none (thr := thr d L) hO) $$ Hlv
  ihave Ha := (Entails.of_eq (show (aLoc d ↦[(aK L).view.set]{fullShare} m (aLoc d) : sProp 𝕄) = ((aK L).view.loc (thr d L) ↦[(aK L).view.set]{fullShare} m (aLoc d)) from rfl)) $$ Ha
  ihave Hu := (Entails.of_eq (show (uLoc d ↦[(uK L).view.set]{fullShare} m (uLoc d) : sProp 𝕄) = ((uK L).view.loc (thr d L) ↦[(uK L).view.set]{fullShare} m (uLoc d)) from rfl)) $$ Hu
  ihave Ho := (Entails.of_eq (show (oLoc d ↦[(oK L).view.set]{fullShare} m (oLoc d) : sProp 𝕄) = ((oK L).view.loc (thr d L) ↦[(oK L).view.set]{fullShare} m (oLoc d)) from rfl)) $$ Ho
  ihave H0 := (Entails.of_eq (show ((thr d L).loc cc0_scratch0 ↦{fullShare} f0 : sProp 𝕄) = (sA.view.loc (thr d L) ↦{fullShare} f0) from rfl)) $$ H0
  ihave H1 := (Entails.of_eq (show ((thr d L).loc cc0_scratch1 ↦{fullShare} f1 : sProp 𝕄) = (sU.view.loc (thr d L) ↦{fullShare} f1) from rfl)) $$ H1
  ihave H2 := (Entails.of_eq (show ((thr d L).loc cc0_scratch2 ↦{fullShare} f2 : sProp 𝕄) = (sP.view.loc (thr d L) ↦{fullShare} f2) from rfl)) $$ H2
  sl_exec
  sl_for (inv1 (F := F) d L) $$ [H2]
  case region =>
    intro k _
    unfold inv1
    iintro ⟨%f, %hf, H2⟩
    sl_exec
    sl_step
    iexists _
    isplitr
    · ipureintro; exact cleared_step k f hf
    · iexact H2
  · unfold inv1
    iexists f2
    isplitr
    · ipureintro; exact fun p hp => absurd hp (by omega)
    · iexact H2
  iintro %_ HI
  unfold inv1
  icases HI with ⟨%f, %hf, H2⟩
  have hz : f = acc (tileA m d L) (tileU m d L) 0 := by
    funext p
    have hp : (p 0).val < 3200 := (p 0).isLt
    exact hf p (by show _ < 16 * 200; omega)
  subst hz
  rw [show tile_body.sl.dma0 m d L = tileA m d L from rfl, show tile_body.sl.dma0_1 m d L = tileU m d L from rfl,
    View.write_whole_univ, View.write_whole_univ]
  sl_for (inv2 (F := F) m d L) $$ [H0 H1 H2]
  case region =>
    intro k _
    unfold inv2
    iintro ⟨H0, H1, H2⟩
    sl_exec
    have hck : k0_chk1 (View.readAt (Elt F) sU.view (Rect.unit (s := S51200) (k0_off3 k) S16.size (k0_off3_inb k)).toLoadRect (tileU m d L)) :=
      idChunk_ok m hpre d L k
    rw [wp_assume_of _ _ _ _ hck]
    sl_exec
    ihave H2 := (Entails.of_eq (pts_sP (F := F) d L _).symm) $$ H2
    iapply (SparseCore.wp_vectorStoreIdx 𝒱₀ (thr d L) none Set.univ (base := sP)) $$ H2
    iintro H2
    sl_step
    isplitl [H0]; · iexact H0
    isplitl [H1]; · iexact H1
    iapply (Entails.of_eq (pts_acc m d L hpre k))
    iexact H2
  · unfold inv2
    isplitl [H0]; · iexact H0
    isplitl [H1]; · iexact H1
    iexact H2
  iintro %_ HI
  unfold inv2
  icases HI with ⟨H0, H1, H2⟩
  sl_exec
  sl_step
  rw [show tile_body.sl.dma0_2 m d L = tileAcc m d L from rfl]
  ihave Ho := (Entails.of_eq (pointsTo_congr (row_outW m d L (m (oLoc d))))) $$ Ho
  isplitl [Ha Hu Ho]
  · isplitl [Ha]; · iexact Ha
    isplitl [Hu]; · iexact Hu
    iexact Ho
  isplitl [H0 H1 H2 Hbufs]
  · isplitl [H0]; · iexists _; iexact H0
    isplitl [H1]; · iexists _; iexact H1
    isplitl [H2]; · iexists _; iexact H2
    iexact Hbufs
  isplitl [Hs0 Hs1 Hs2 Hsems]
  · isplitl [Hs0]; · iexact Hs0
    isplitl [Hs1]; · iexact Hs1
    isplitl [Hs2]; · iexact Hs2
    iexact Hsems
  iexists _
  isplitr
  swap
  · iexact HO
  · ipureintro
    intro p hp
    simp only [Finset.mem_insert] at hp
    rcases hp with rfl | rfl | rfl | hp
    · exact .inr rfl
    · exact .inr rfl
    · exact .inr rfl
    · exact .inl hp

end Tile

end Cert.Proof.SideIdeal
-- ==== Proof.IdealRegion.lean ====
/-
  The TensorCore's tail call, with the value it leaves.

  The tail reads the table of partial sums, the weights and the utterance numbers, each whole, and stores one
  number. `tailOut` is that number, as a one-by-one array, as a function of the three arrays; `tail_run` runs the
  body; `tailRegion` is the whole call, from every array of the memory at a valuation to the same valuation with
  the result's array at `tailOut`.
-/
module

public import proofs.«01_k».proof.Proof.IdealTile
public import Idealize.ShloMosaic.Lib.Pipeline.RegionsLoop

@[expose] public section

noncomputable section

namespace Cert.Proof.SideIdeal

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The number the tail stores -/

/-- What the tail stores, from the hypotheses' probabilities `p`, the weighted ones `pw`, the utterance numbers
    `un`, the sum `s0` of the first utterance's quotient and the next one's two sums `d1` and `n1`. -/
def tailSum (p pw : FVec F S1x3200 .f32) (un : IVec S1x3200 32) (s0 d1 : F .f32) (n1 : FVec F S1 .f32) : FVec F S1x1 .f32 :=
  k1_pay24 p pw un
    (k1_pay20 p pw un
      (k1_pay17 p pw un
        (k1_pay13 p pw un
          (k1_pay10 p pw un (k1_pay8 p pw un s0 d1 n1) k1_pay9)
          (k1_pay11 un) (k1_pay12 p un) (Scalar.ofBits .f32 0x00000000#32))
        (Scalar.cmpf .ogt (k1_pay15 p un) (Scalar.ofBits .f32 0x00000000#32)) (k1_pay16 p pw un))
      (k1_pay18 un) (k1_pay19 p un))
    (k1_pay22 p un) (k1_pay23 pw un)

/-- What the tail stores, from the table of partial sums `x`, the weights `w` and the utterance numbers `u`. -/
def tailOut (x : Vec F S32x3200 .f32) (w : Vec F S1x3200 .f32) (u : Vec F S1x3200 .i32) : FVec F S1x1 .f32 :=
  tailSum (k1_pay1 x) (k1_pay2 x w) (k1_pay3 u) (k1_pay4 x w u) (k1_pay6 x u) (k1_pay7 x w u)

/-! ## The body -/

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A rectangle from the origin over the whole of a shape places every index at itself. -/
theorem unit_emb {S : Shape} (o : Fin S.rank → ℕ) (ho : ∀ a, o a = 0) (h : ∀ a, o a + S.size a ≤ S.size a) (x : S.Idx) :
    (Rect.unit (s := S) o S.size h).emb x = x := by
  obtain rfl : o = fun _ => 0 := funext ho
  exact Rect.emb_whole_apply S x

theorem load_rows (c : Dev nD) (f : Bf (F := F) c (stage1_0 0)) :
    View.readAt (Elt F) (stage1_0 0).view (Rect.unit (s := S32x3200) ![0, 0] S32x3200.size inb_S32x3200_S32x3200_0_0).toLoadRect f = f := by
  funext x
  exact congrArg f (unit_emb (S := S32x3200) ![0, 0] (by decide) inb_S32x3200_S32x3200_0_0 x)

theorem load_weights (c : Dev nD) (f : Bf (F := F) c (stage1_1 0)) :
    View.readAt (Elt F) (stage1_1 0).view (Rect.unit (s := S1x3200) ![0, 0] S1x3200.size inb_S1x3200_S1x3200_0_0).toLoadRect f = f := by
  funext x
  exact congrArg f (unit_emb (S := S1x3200) ![0, 0] (by decide) inb_S1x3200_S1x3200_0_0 x)

theorem load_numbers (c : Dev nD) (f : Bf (F := F) c (stage1_2 0)) :
    View.readAt (Elt F) (stage1_2 0).view (Rect.unit (s := S1x3200) ![0, 0] S1x3200.size inb_S1x3200_S1x3200_0_0).toLoadRect f = f := by
  funext x
  exact congrArg f (unit_emb (S := S1x3200) ![0, 0] (by decide) inb_S1x3200_S1x3200_0_0 x)

/-- The store leaves the result's buffer at what is stored. -/
theorem store_one (c : Dev nD) (f : Bf (F := F) c (stage1_3 0)) (x : FVec F S1x1 .f32) :
    ((stage1_3 0).view.slice (Rect.unit (s := S1x1) ![0, 0] S1x1.size inb_S1x1_S1x1_0_0)).write (Elt F) f x Finset.univ = (x : Bf (F := F) c (stage1_3 0)) := by
  funext y
  have h := View.write_emb_of_mem (v := (stage1_3 0).view.slice (Rect.unit (s := S1x1) ![0, 0] S1x1.size inb_S1x1_S1x1_0_0)) (Val := Elt F) f x
    (M := Finset.univ) (x := y) (Finset.mem_univ _)
  rw [show ((stage1_3 0).view.slice (Rect.unit (s := S1x1) ![0, 0] S1x1.size inb_S1x1_S1x1_0_0)).emb y = y from
    unit_emb (S := S1x1) ![0, 0] (by decide) inb_S1x1_S1x1_0_0 y] at h
  exact h

/-- From its four staging buffers held whole the tail runs to its return with the first three as they were and
    the last at `tailOut` of them. -/
theorem tail_run (c : Dev nD) (f0 : Bf (F := F) c (stage1_0 0)) (f1 : Bf (F := F) c (stage1_1 0)) (f2 : Bf (F := F) c (stage1_2 0))
    (f3 : Bf (F := F) c (stage1_3 0)) (E : Set ℕ) (Q : PUnit → sProp 𝕄) :
    iprop(pt c (stage1_0 0) f0 ∗ pt c (stage1_1 0) f1 ∗ pt c (stage1_2 0) f2 ∗ pt c (stage1_3 0) f3
        ∗ (iprop(pt c (stage1_0 0) f0 ∗ pt c (stage1_1 0) f1 ∗ pt c (stage1_2 0) f2
          ∗ pt (F := F) c (stage1_3 0) (tailOut f0 f1 f2)) -∗ Q ⟨⟩))
      ⊢ wp frame (wpE (defs₀ (F := F)) 𝒱₀ c none) E
          (cc1__tc_tail_body (stage1_0 0) (hstage1_0 0) (stage1_1 0) (hstage1_1 0) (stage1_2 0) (hstage1_2 0) (stage1_3 0) (hstage1_3 0)) Q := by
  rw [cc1__tc_tail_body_eq_skeleton]
  unfold cc1__tc_tail_body_skel
  rw [k1_part1_eq_skeleton, k1_part2_eq_skeleton, k1_part3_eq_skeleton, k1_part4_eq_skeleton, k1_part5_eq_skeleton,
    k1_part6_eq_skeleton, k1_part7_eq_skeleton]
  unfold k1_part1_skel k1_part2_skel k1_part3_skel k1_part4_skel k1_part5_skel k1_part6_skel k1_part7_skel
  iintro ⟨H0, H1, H2, H3, Hk⟩
  sl_exec
  sl_step
  iapply Hk
  isplitl [H0]; · iexact H0
  isplitl [H1]; · iexact H1
  isplitl [H2]; · iexact H2
  rw [View.writes_singleton, store_one c f3]
  delta tail_run.sl.v168 tail_run.sl.cst_44
  rw [load_rows c f0, load_weights c f1, load_numbers c f2]
  delta tailOut tailSum
  iexact H3

/-! ## The proof data, at an entry valuation -/

variable (V : (c : Dev nD) → (b : Ref sig .tc) → Buf (Elt F) ((c : Thread nD τ).loc b)) (b : ℕ)

/-- The three input arrays as the call finds them staged. -/
abbrev rowsAt (c : Dev nD) : Vec F S32x3200 .f32 := ((cfg1.win 0).blk t1_0).view.read (Elt F) (V c main_v0)
abbrev weightsAt (c : Dev nD) : Vec F S1x3200 .f32 := ((cfg1.win 1).blk t1_0).view.read (Elt F) (V c main_v1)
abbrev numbersAt (c : Dev nD) : Vec F S1x3200 .i32 := ((cfg1.win 2).blk t1_0).view.read (Elt F) (V c main_v2)

/-- The call's proof data: the arrays at the valuation, the inputs' buffers as fetched, the result's at `tailOut`;
    nothing owed, and of the waits recorded so far only that their levels are at most `b`. -/
def tailDat (c : Dev nD) : Dat τ (Elt F) (HIx 1) ℕ UU ℕ cfg1 c where
  A w := V c (Pipeline.arrRef spec1 w)
  after w _ := match w with
    | ⟨0, _⟩ => rowsAt V c
    | ⟨1, _⟩ => weightsAt V c
    | ⟨2, _⟩ => numbersAt V c
    | ⟨3, _⟩ => tailOut (rowsAt V c) (weightsAt V c) (numbersAt V c)
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ b}

/-- No table is prefetched. -/
abbrev adm : (p : Fin 1) → (pcfgs (F := F) p).Adm := fun p => (cfgs p).toPCfg_adm

def tailDats : (p : Fin 1) → (c : Dev nD) → Dat τ (Elt F) (HIx 1) ℕ UU ℕ (Pipeline.pin (pcfgs (F := F)) adm p) c
  | ⟨0, _⟩ => fun c => tailDat V b c

theorem before_rows (c : Dev nD) (d) : (tailDat V b c).before 0 t1_0 d = rowsAt V c := by
  unfold Dat.before; rw [if_pos (by decide)]; rfl
theorem before_weights (c : Dev nD) (d) : (tailDat V b c).before 1 t1_0 d = weightsAt V c := by
  unfold Dat.before; rw [if_pos (by decide)]; rfl
theorem before_numbers (c : Dev nD) (d) : (tailDat V b c).before 2 t1_0 d = numbersAt V c := by
  unfold Dat.before; rw [if_pos (by decide)]; rfl

/-- The body at the call's one point, from its staging buffers as fetched to the last at `tailOut`. -/
theorem tail_obligation (c : Dev nD) : BodyObligation (tailDat V b c) (defs₀ (F := F)) 𝒱₀ (none : HIx 1) Set.univ := fun t => by
  obtain rfl := fin_N1 t
  rw [bigSep_W1, bigSep_W1]
  simp only [owns_whole_eq]
  rw [show (tailDat V b c).Φ t1_0.castSucc = (tailDat V b c).Φ t1_0.succ from rfl,
    show (tailDat V b c).owesAt (none : HIx 1) t1_0.succ = (tailDat V b c).owesAt (none : HIx 1) t1_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_rows] at hf0
  rw [before_weights] at hf1
  rw [before_numbers] at hf2
  subst hf0 hf1 hf2
  iapply (tail_run c (rowsAt V c) (weightsAt V c) (numbersAt V c) f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

/-! ## The call over the whole memory -/

variable (Vp : (c : Dev nD) → (b : Ref sig .tc) → Buf (Elt F) ((c : Thread nD τ).loc b))

/-- The core's record of what it owes: nothing, with every recorded wait's level at most `b`. -/
abbrev idle (c : Dev nD) : sProp 𝕄 :=
  iprop(∃ W, ⌜(K (F := F)).WBelow (c : Thread nD τ) W b⌝ ∗ owes (c : Thread nD τ) (0 : CellTallies nD τ sig (HIx 1)) W)

set_option backward.isDefEq.respectTransparency.types false in
/-- The call, from every array at `V` to every array at `Vp`, which is `V` but for the result's array. -/
def tailRegion (hout : ∀ c, Vp c main_v3 = (tailDat V b c).arrAt 3 cfg1.N)
    (hne : ∀ c (r : Ref sig .tc), r ≠ main_v3 → Vp c r = V c r) :
    Pipeline.RegionSeg (pcfgs (F := F)) adm (tailDats V b) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (tail_obligation V b c).loose
  hwaits := Pipeline.hwaits_of_owed_zero _ _ _ _ _ _ 0 fun _ _ => rfl
  pre c := iprop(unscopedBufs c (V c) ∗ idle b c)
  post c := iprop(unscopedBufs c (Vp c) ∗ idle b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (tailDats V b) (launch1).win (launch1).arr_whole c
      ((tailDats V b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (tailDats V b 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (tailDats V b 0 c).Φ (Fin.last _)
      = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (tailDats V b) ((tailDats V b 0 c).share_full fun _ => rfl) (V c) (Vp c) ((tailDats V b 0 c).arrAt · cfg1.N)
      (fun w => by
        fin_cases w
        · exact ((tailDats V b 0 c).arrAt_in 0 rfl _).trans (hne c main_v0 (by decide)).symm
        · exact ((tailDats V b 0 c).arrAt_in 1 rfl _).trans (hne c main_v1 (by decide)).symm
        · exact ((tailDats V b 0 c).arrAt_in 2 rfl _).trans (hne c main_v2 (by decide)).symm
        · exact (hout c).symm)
      (fun r hr => hne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | ⟨w, s, h⟩
      · exact h
      · rw [h]; exact Nat.zero_le _
    iexact HO

theorem rowsAt_eq (c : Dev nD) : rowsAt V c = V c main_v0 := by
  funext x
  refine congrArg (V c main_v0) ?_
  funext a
  apply Fin.ext
  show 0 * S32x3200.size a + 1 * (x a).val = (x a).val
  omega

theorem weightsAt_eq (c : Dev nD) : weightsAt V c = V c main_v1 := by
  funext x
  refine congrArg (V c main_v1) ?_
  funext a
  apply Fin.ext
  show 0 * S1x3200.size a + 1 * (x a).val = (x a).val
  omega

theorem numbersAt_eq (c : Dev nD) : numbersAt V c = V c main_v2 := by
  funext x
  refine congrArg (V c main_v2) ?_
  funext a
  apply Fin.ext
  show 0 * S1x3200.size a + 1 * (x a).val = (x a).val
  omega

theorem one_sizes : ∀ a, S1x1.size a = 1 := by decide

instance : Subsingleton S1x1.Idx :=
  ⟨fun x y => funext fun a => Fin.ext (by have hx : (x a).val < S1x1.size a := (x a).isLt; have hy : (y a).val < S1x1.size a := (y a).isLt
                                          have h1 : S1x1.size a = 1 := one_sizes a
                                          omega)⟩

/-- The result's array after the call is `tailOut` of the three input arrays. -/
theorem tail_arr (c : Dev nD) : (tailDat V b c).arrAt 3 cfg1.N
    = (tailOut (V c main_v0) (V c main_v1) (V c main_v2) : Buf (Elt F) ((c : Thread nD τ).loc main_v3)) := by
  have key : ∀ x y : S1x1.Idx, tailOut (rowsAt V c) (weightsAt V c) (numbersAt V c) x = tailOut (V c main_v0) (V c main_v1) (V c main_v2) y := by
    intro x y
    rw [rowsAt_eq, weightsAt_eq, numbersAt_eq, Subsingleton.elim x y]
  refine Dat.arrAt_eq_of_cover _ 3 _ (fun t _ => funext fun x => ?_) fun i => ⟨t1_0, flush1_3 _, ?_⟩
  · exact key x x
  · have h := View.emb_mem_set ((cfg1.win 3).blk t1_0).view (fun a => ⟨0, by revert a; decide⟩)
    exact (Subsingleton.elim (α := S1x1.Idx) _ _ : i = _) ▸ h

end Cert.Proof.SideIdeal

end
-- ==== Proof.IdealLaunch.lean ====
/-
  The whole program's run, with the value it leaves.

  `main` gives the 32 tiles their blocks of the scores and of the path numbers and their rows of the partial sums,
  takes them back with the partial sums at `outW`, reshapes the weights and the utterance numbers to one row each,
  runs the tail, and reshapes its one number. `run_main` says that from a launch memory whose path numbers are in
  range every run ends, with the result at `resW`, the four arguments as they were and every semaphore at zero.
-/
module

public import proofs.«01_k».proof.Proof.IdealRegion

@[expose] public section

noncomputable section

namespace Cert.Proof.SideIdeal

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

theorem nCore_zero : (K (F := F)).nCore 0 = 2 := rfl
theorem nSub_zero : (K (F := F)).nSub 0 = 16 := rfl

/-- The tile that subcore `i` of core `c` runs. -/
abbrev tileAt (c : Fin ((K (F := F)).nCore 0)) (i : Fin ((K (F := F)).nSub 0)) : grid0.Coords := coordsV ⟨c.val, c.isLt⟩ ⟨i.val, i.isLt⟩

/-- The one call hands each core what its sixteen tiles are handed, and takes back what they bring back. -/
def P : (K (F := F)).Pay (nD := nD) (Val := Elt F) (Name := ℕ) (U := UU) where
  st := fun q d c => match q with | 0 => bigSep Finset.univ fun i => goL m d (tileAt (F := F) c i)
  dn := fun q d c => match q with | 0 => bigSep Finset.univ fun i => tdL m d (tileAt (F := F) c i)
  go := fun q d c i => match q with | 0 => goL m d (tileAt (F := F) c i)
  td := fun q d c i => match q with | 0 => tdL m d (tileAt (F := F) c i)
  x := fun _ _ => iprop(emp)

instance P_storable : (P (F := F) m).IsStorable where
  st q d c := match q with
    | 0 => (inferInstance : BI.Storable (upEmb : UEmb _ 𝕄) (bigSep Finset.univ fun i => goL m d (tileAt (F := F) c i)))
  dn q d c := match q with
    | 0 => (inferInstance : BI.Storable (upEmb : UEmb _ 𝕄) (bigSep Finset.univ fun i => tdL m d (tileAt (F := F) c i)))
  go q d c i := match q with | 0 => (inferInstance : BI.Storable (upEmb : UEmb _ 𝕄) (goL m d (tileAt (F := F) c i)))
  td q d c i := match q with | 0 => (inferInstance : BI.Storable (upEmb : UEmb _ 𝕄) (tdL m d (tileAt (F := F) c i)))

/-! ## The tiles' obligation -/

theorem defs₀_vector (c : Fin τ.nSC) (s : Fin τ.nSub) :
    defs₀ (F := F) (.scVector c s) 0 ()
      = SparseCore.onTile hcore0 hsub0 (fun c s => cc0_mwer_segment_sum_sc (coordsV c s)
          aM (Memref.isWhole_whole _) uM (Memref.isWhole_whole _) oM (Memref.isWhole_whole _)
          sA (Memref.isWhole_whole _) sU (Memref.isWhole_whole _) sP (Memref.isWhole_whole _) cc0_scoped0 cc0_scoped1 cc0_scoped2) ⟨⟩ c s := rfl

/-- A task's own waits, as waits the launch theorem allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

theorem vecSplit : (K (F := F)).VecSplit' (P m) 0 := by
  intro d c
  show (bigSep Finset.univ fun i => goL m d (tileAt (F := F) c i)) ⊢ |={Set.univ}=> iprop(
    (bigSep Finset.univ fun i => goL m d (tileAt (F := F) c i))
      ∗ ((bigSep Finset.univ fun i => tdL m d (tileAt (F := F) c i)) -∗ bigSep Finset.univ fun i => tdL m d (tileAt (F := F) c i)))
  iintro H; imodintro
  isplitl [H]; · iexact H
  iintro H; iexact H

/-! ## The arrays as the tiles' blocks -/

/-- An array whose tiles' parts are told apart by a number below 32 is the tiles' parts together. -/
theorem whole_tiles {ℓ : Loc nD τ sig} (A : grid0.Coords → Finset (Idx ℓ)) (no : Idx ℓ → ℕ) (hno : ∀ x, no x < 32)
    (hA : ∀ L x, x ∈ A L ↔ no x = tileNo L) (f : Buf (Elt F) ℓ) :
    (ℓ ↦{fullShare} f : sProp 𝕄) = bigSep Finset.univ fun c : Fin ((K (F := F)).nCore 0) =>
      bigSep Finset.univ fun i : Fin ((K (F := F)).nSub 0) => ℓ ↦[A (tileAt (F := F) c i)]{fullShare} f := by
  rw [← BI.bigSep_univ_prod (fun p : Fin ((K (F := F)).nCore 0) × Fin ((K (F := F)).nSub 0) => ℓ ↦[A (tileAt (F := F) p.1 p.2)]{fullShare} f),
    ← pointsTo_biUnion Finset.univ (ℓ := ℓ) (fun p : Fin ((K (F := F)).nCore 0) × Fin ((K (F := F)).nSub 0) => A (tileAt (F := F) p.1 p.2))]
  · congr 1
    symm
    refine Finset.eq_univ_of_forall fun x => ?_
    refine Finset.mem_biUnion.mpr ⟨(⟨no x % 2, ?_⟩, ⟨no x / 2, ?_⟩), Finset.mem_univ _, (hA _ _).mpr ?_⟩
    · rw [nCore_zero]; omega
    · rw [nSub_zero]; have := hno x; omega
    · show no x = 2 * (no x / 2) + no x % 2; omega
  · rintro ⟨c, i⟩ - ⟨c', i'⟩ - hne
    refine Finset.disjoint_left.mpr fun x hx hx' => hne ?_
    have h : 2 * i.val + c.val = 2 * i'.val + c'.val := ((hA _ _).mp hx).symm.trans ((hA _ _).mp hx')
    have hc : c.val < 2 := c.isLt
    have hc' : c'.val < 2 := c'.isLt
    have ec : c.val = c'.val := by omega
    have ei : i.val = i'.val := by omega
    exact Prod.ext (Fin.ext ec) (Fin.ext ei)

theorem mem_aK (L : grid0.Coords) (x : S1638400.Idx) : x ∈ (aK L).view.set ↔ (x 0).val / 51200 = tileNo L := by
  show x ∈ ((View.whole (main_arg0_scv : Ref sig .scVector)).slice (aRect L)).set ↔ _
  rw [View.set_slice_whole]
  constructor
  · intro h
    obtain ⟨y, -, rfl⟩ := Finset.mem_map.mp ((Rect.map_emb_univ (aRect L)).symm ▸ h : x ∈ Finset.univ.map (aRect L).emb)
    have hy : (y 0).val < 51200 := (y 0).isLt
    rw [aRect_emb]; omega
  · intro h
    have hx : (x 0).val < 1638400 := (x 0).isLt
    rw [← Rect.map_emb_univ]
    refine Finset.mem_map.mpr ⟨fun | 0 => ⟨(x 0).val % 51200, Nat.mod_lt _ (by decide)⟩, Finset.mem_univ _, ?_⟩
    funext a
    match a with
    | 0 => exact Fin.ext ((aRect_emb L _).trans (by show 51200 * tileNo L + (x 0).val % 51200 = _; omega))

theorem mem_uK (L : grid0.Coords) (x : S1638400.Idx) : x ∈ (uK L).view.set ↔ (x 0).val / 51200 = tileNo L := mem_aK L x

theorem mem_oK (L : grid0.Coords) (x : S32x3200.Idx) : x ∈ (oK L).view.set ↔ (x 0).val = tileNo L := by
  constructor
  · intro h
    obtain ⟨y, -, rfl⟩ := Finset.mem_map.mp h
    exact (oK_emb L y).1
  · intro h
    refine Finset.mem_map.mpr ⟨pix ⟨(x 1).val, (x 1).isLt⟩, Finset.mem_univ _, ?_⟩
    have he := oK_emb L (pix ⟨(x 1).val, (x 1).isLt⟩)
    funext a
    match a with
    | 0 => exact Fin.ext (he.1.trans h.symm)
    | 1 => exact Fin.ext he.2

theorem no_arc (x : S1638400.Idx) : (x 0).val / 51200 < 32 := by
  have hx : (x 0).val < 1638400 := (x 0).isLt
  omega
theorem no_row (x : S32x3200.Idx) : (x 0).val < 32 := (x 0).isLt

/-- What the call takes for the two cores, and what it hands back, as the three arrays whole. -/
theorem st0_eq (d : Dev nD) : (bigSep Finset.univ fun c : Fin ((K (F := F)).nCore 0) => (P m).st 0 d c)
    = iprop((aLoc d ↦{fullShare} m (aLoc d)) ∗ (uLoc d ↦{fullShare} m (uLoc d)) ∗ (oLoc d ↦{fullShare} m (oLoc d))) := by
  rw [whole_tiles (F := F) (ℓ := aLoc d) (fun L => (aK L).view.set) (fun x : S1638400.Idx => (x 0).val / 51200) no_arc mem_aK,
    whole_tiles (F := F) (ℓ := uLoc d) (fun L => (uK L).view.set) (fun x : S1638400.Idx => (x 0).val / 51200) no_arc mem_uK,
    whole_tiles (F := F) (ℓ := oLoc d) (fun L => (oK L).view.set) (fun x : S32x3200.Idx => (x 0).val) no_row mem_oK]
  simp only [← bigSep_sep']
  rfl
theorem dn0_eq (d : Dev nD) : (bigSep Finset.univ fun c : Fin ((K (F := F)).nCore 0) => (P m).dn 0 d c)
    = iprop((aLoc d ↦{fullShare} m (aLoc d)) ∗ (uLoc d ↦{fullShare} m (uLoc d)) ∗ (oLoc d ↦{fullShare} outW m d)) := by
  rw [whole_tiles (F := F) (ℓ := aLoc d) (fun L => (aK L).view.set) (fun x : S1638400.Idx => (x 0).val / 51200) no_arc mem_aK,
    whole_tiles (F := F) (ℓ := uLoc d) (fun L => (uK L).view.set) (fun x : S1638400.Idx => (x 0).val / 51200) no_arc mem_uK,
    whole_tiles (F := F) (ℓ := oLoc d) (fun L => (oK L).view.set) (fun x : S32x3200.Idx => (x 0).val) no_row mem_oK]
  simp only [← bigSep_sep']
  rfl

/-! ## The launch element -/

/-- The tail's cells and tokens, as the launch deals them. -/
abbrev tailGhost (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ownU_three (a : UH) (b : UP) (c : Counters) : (ownU (a, (b, c)) : sProp 𝕄) ⊢ iprop(BI.own (EH a) ∗ BI.own (EP b)) := by
  iintro Hu
  ihave H := (ownU_pair _ _) $$ Hu
  icases H with ⟨HH, HR⟩
  isplitl [HH]; · iexact HH
  ihave H := (own_pair_emb _ _ _) $$ HR
  icases H with ⟨HP, -⟩
  iexact HP

theorem hu₀ : (ownU (u₀ (F := F)) : sProp 𝕄)
    ⊢ |={Set.univ}=> iprop(BI.own (EH (initOf (K (F := F)).hsCells (K (F := F)).hsToks)) ∗ (bigSep Finset.univ fun d : Dev nD => tailGhost (F := F) d)
        ∗ bigSep Finset.univ fun thr : Thread nD τ => bigSep Finset.univ fun q : Fin 1 => (P m).x q thr) := by
  unfold u₀
  iintro Hu
  ihave H := (ownU_three _ _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  unfold P; dsimp only
  rw [show (bigSep Finset.univ fun _ : Thread nD τ => bigSep Finset.univ fun _ : Fin 1 => (iprop(emp) : sProp 𝕄)) = iprop(emp) from by
    exact (bigSep_congr fun _ _ => bigSep_emp_const _).trans (bigSep_emp_const _)]
  iempintro

/-! ## The TensorCore's arrays -/

abbrev rA : DevRef τ sig := Proc.devRef .tc (main_arg0 : Ref sig .tc)
abbrev rW : DevRef τ sig := Proc.devRef .tc (main_arg1 : Ref sig .tc)
abbrev rU : DevRef τ sig := Proc.devRef .tc (main_arg2 : Ref sig .tc)
abbrev rN : DevRef τ sig := Proc.devRef .tc (main_arg3 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)
abbrev arrs : Finset (DevRef τ sig) := {rA, rW, rU, rN, r0, r1, r2, r3, r4}

theorem held_arrs (d : Dev nD) (W : Valuation τ sig (Elt F)) :
    (held (SparseCore.T d) arrs W : sProp 𝕄) = iprop((aLoc d ↦{fullShare} W rA) ∗ ((SparseCore.T d).loc main_arg1 ↦{fullShare} W rW) ∗ (uLoc d ↦{fullShare} W rU)
      ∗ ((SparseCore.T d).loc main_arg3 ↦{fullShare} W rN) ∗ (oLoc d ↦{fullShare} W r0) ∗ ((SparseCore.T d).loc main_v1 ↦{fullShare} W r1)
      ∗ ((SparseCore.T d).loc main_v2 ↦{fullShare} W r2) ∗ ((SparseCore.T d).loc main_v3 ↦{fullShare} W r3) ∗ (SparseCore.T d).loc main_v4 ↦{fullShare} W r4) := by
  unfold held arrs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscoped_arrs (d : Dev nD) (W : Valuation τ sig (Elt F)) : (unscopedBufs d (fun b => W b) : sProp 𝕄) = held (SparseCore.T d) arrs W := by
  rw [held_arrs]
  unfold unscopedBufs
  rw [show (Finset.univ.filter fun b : Ref sig .tc => ¬ b.isScoped)
      = {main_arg0, main_arg1, main_arg2, main_arg3, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The tail's call in main -/

/-- A valuation with the tail's result in. -/
abbrev afterTail (W : Valuation τ sig (Elt F)) : Valuation τ sig (Elt F) :=
  Function.update W r3 (tailOut (W r0) (W r1) (W r2) : (r3 : DevRef τ sig).ty.Contents (Elt F))

/-- The level below which the TensorCore's waits lie once the one call is over. -/
abbrev lvl : ℕ := 8 * SparseCore.Cfg.Blocks.fst 1 1 1

/-- After the one call the TensorCore owes nothing: what its state says beside that. -/
theorem tcSt_one (d : Dev nD) : ∃ R : sProp 𝕄, (K (F := F)).tcSt EH d 1 = iprop(idle lvl d ∗ R) := by
  have h : (K (F := F)).Otc d 1 = (0 : CellTallies nD τ sig (HIx 1)) := (K (F := F)).Otc_end (N := 1) d (Nat.le_refl 1)
  unfold SparseCore.Cfg.tcSt
  rw [h]
  exact ⟨_, rfl⟩

/-- The tail's call from every array at a valuation. -/
abbrev tailOf (W : Valuation τ sig (Elt F)) :=
  tailRegion (F := F) (fun _ b => W b) lvl (fun _ b => afterTail W b)
    (fun c => (Function.update_self (f := W) r3 _).trans (tail_arr (fun _ b => W b) lvl c).symm)
    (fun _ r hr => Function.update_of_ne (fun h => hr (Proc.devRef_injective _ h)) _ _)

/-- The tail's call, before the launch's labels are added. -/
def tailProg : Prog (TpuEff nD τ sig (Elt F) (ΛP (F := F)) .tc) PUnit := .op (.customCall (Pipeline.entry 0) ()) .ret

theorem tail_call (κ : GSem nD τ sig → ℕ) (d : Dev nD) (W : Valuation τ sig (Elt F)) (Q : PUnit → sProp 𝕄) :
    iprop((K (F := F)).ctx EH (P m) κ ∗ (K (F := F)).tcSt EH d 1 ∗ boundary (SparseCore.T d) ∗ held (SparseCore.T d) arrs W ∗ tailGhost (F := F) d
        ∗ (iprop((K (F := F)).tcSt EH d 1 ∗ boundary (SparseCore.T d) ∗ held (SparseCore.T d) arrs (afterTail W)) -∗ Q ⟨⟩))
      ⊢ wp frame (wpE ((K (F := F)).defs (D (F := F))) 𝒱 (SparseCore.T d) none) Set.univ
          (Prog.lift (.customCall (SparseCore.inner (Pipeline.entry 0)) ())) Q := by
  refine BI.Entails.trans ?_ ((K (F := F)).wp_liftProg (D (F := F)) 𝒱 (SparseCore.T d) Set.univ none tailProg Q)
  obtain ⟨R, hR⟩ := tcSt_one (F := F) d
  rw [hR, ← unscoped_arrs, ← unscoped_arrs]
  have key : iprop((iprop(boundary (SparseCore.T d) ∗ unscopedBufs d (fun b => afterTail W b) ∗ idle lvl d)
        -∗ wp frame (wpE (D (F := F)) 𝒱 (SparseCore.T d) none) Set.univ (.ret ⟨⟩) Q)
      ∗ boundary (SparseCore.T d) ∗ iprop(unscopedBufs d (fun b => W b) ∗ idle lvl d) ∗ levAts (K (F := F)).L (K (F := F)).lev
      ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d) none) Set.univ tailProg Q :=
    Pipeline.RegionSeg.wp (pcfgs (F := F)) adm (tailDats (fun _ b => W b) lvl) none cellOf_inj EP defs₀ 𝒱₀
      (K (F := F)).L (K (F := F)).lev (tailOf W) d none (fun _ h => nomatch h) .ret Q
  refine BI.Entails.trans ?_ key
  show (_ : sProp 𝕄) ⊢ _
  iintro ⟨#Hctx, ⟨Hid, HR⟩, Hb, Hheld, ⟨Hg, Ht⟩, HQ⟩
  isplitl [HR HQ]
  · iintro ⟨Hb, Hheld, Hid⟩
    rw [wp_ret]; imodintro
    iapply HQ
    isplitl [HR Hid]
    · isplitl [Hid] <;> iassumption
    isplitl [Hb] <;> iassumption
  isplitl [Hb]; · iexact Hb
  isplitl [Hheld Hid]; · isplitl [Hheld] <;> iassumption
  isplitr; · iapply ((K (F := F)).ctx_levAts κ) $$ Hctx
  isplitl [Hg] <;> iassumption

/-! ## The arrays through main -/

/-- The three reshapes of main. -/
abbrev opW : HloOp τ sig (Elt F) := StableHlo.reshape main_arg1 main_v1 (rfl : (.f32 : EltTy) = .f32) shapeCasts_S3200_S1x3200
abbrev opN : HloOp τ sig (Elt F) := StableHlo.reshape main_arg3 main_v2 (rfl : (.i32 : EltTy) = .i32) shapeCasts_S3200_S1x3200
abbrev opR : HloOp τ sig (Elt F) := StableHlo.reshape main_v3 main_v4 (rfl : (.f32 : EltTy) = .f32) shapeCasts_S1x1_S_

/-- The arrays at the launch, and with the partial sums in. -/
def V0 (d : Dev nD) : Valuation τ sig (Elt F) := fun b => m (d, b)
def V1 (d : Dev nD) : Valuation τ sig (Elt F) := Function.update (V0 m d) r0 (outW m d : (r0 : DevRef τ sig).ty.Contents (Elt F))
/-- The arrays with the weights and the utterance numbers as one row each. -/
def V3 (d : Dev nD) : Valuation τ sig (Elt F) := (opN (F := F)).result ((opW (F := F)).result (V1 m d))
/-- The arrays at the end. -/
def V5 (d : Dev nD) : Valuation τ sig (Elt F) := (opR (F := F)).result (afterTail (V3 m d))

theorem V1_of_ne (d : Dev nD) (b : DevRef τ sig) (h : b ≠ r0) : V1 m d b = m (d, b) := Function.update_of_ne h _ _
theorem V1_r0 (d : Dev nD) : V1 m d r0 = outW m d := Function.update_self _ _ _

theorem opW_of_ne (W : Valuation τ sig (Elt F)) (b : DevRef τ sig) (h : b ≠ r1) : (opW (F := F)).result W b = W b :=
  (opW (F := F)).result_of_not_mem _ (fun h' => h (Finset.mem_singleton.mp h'))
theorem opN_of_ne (W : Valuation τ sig (Elt F)) (b : DevRef τ sig) (h : b ≠ r2) : (opN (F := F)).result W b = W b :=
  (opN (F := F)).result_of_not_mem _ (fun h' => h (Finset.mem_singleton.mp h'))
theorem opR_of_ne (W : Valuation τ sig (Elt F)) (b : DevRef τ sig) (h : b ≠ r4) : (opR (F := F)).result W b = W b :=
  (opR (F := F)).result_of_not_mem _ (fun h' => h (Finset.mem_singleton.mp h'))
theorem afterTail_of_ne (W : Valuation τ sig (Elt F)) (b : DevRef τ sig) (h : b ≠ r3) : afterTail W b = W b := Function.update_of_ne h _ _
theorem afterTail_r3 (W : Valuation τ sig (Elt F)) : afterTail W r3 = tailOut (W r0) (W r1) (W r2) := Function.update_self _ _ _

/-- An array that no operation of main writes ends as it was. -/
theorem V5_kept (d : Dev nD) (b : DevRef τ sig) (h0 : b ≠ r0) (h1 : b ≠ r1) (h2 : b ≠ r2) (h3 : b ≠ r3) (h4 : b ≠ r4) : V5 m d b = m (d, b) := by
  unfold V5 V3
  rw [opR_of_ne _ _ h4, afterTail_of_ne _ _ h3, opN_of_ne _ _ h2, opW_of_ne _ _ h1, V1_of_ne m d b h0]

theorem V3_r0 (d : Dev nD) : V3 m d r0 = outW m d := by
  unfold V3
  rw [opN_of_ne _ _ (by decide), opW_of_ne _ _ (by decide), V1_r0]
theorem V3_r1 (d : Dev nD) : V3 m d r1 = shapeCast S1x3200 (m ((SparseCore.T d).loc main_arg1)) shapeCasts_S3200_S1x3200 := by
  unfold V3
  rw [opN_of_ne _ _ (by decide)]
  refine (StableHlo.reshape_result _ _ _ _ _ _ _).trans ?_
  rw [V1_of_ne m d _ (by decide)]
  rfl
theorem V3_r2 (d : Dev nD) : V3 m d r2 = shapeCast S1x3200 (m ((SparseCore.T d).loc main_arg3)) shapeCasts_S3200_S1x3200 := by
  unfold V3
  refine (StableHlo.reshape_result _ _ _ _ _ _ _).trans ?_
  rw [opW_of_ne _ _ (by decide), V1_of_ne m d _ (by decide)]
  rfl

/-- The program's result from its four arguments: the tail's number from the tiles' partial sums, the weights and the
    utterance numbers. -/
def resW (d : Dev nD) : Vec F S_ .f32 :=
  shapeCast S_ (tailOut (outW m d) (shapeCast S1x3200 (m ((SparseCore.T d).loc main_arg1)) shapeCasts_S3200_S1x3200)
    (shapeCast S1x3200 (m ((SparseCore.T d).loc main_arg3)) shapeCasts_S3200_S1x3200)) shapeCasts_S1x1_S_

theorem V5_r4 (d : Dev nD) : V5 m d r4 = resW m d := by
  unfold V5
  refine (StableHlo.reshape_result _ _ _ _ _ _ _).trans ?_
  rw [show afterTail (V3 m d) (Proc.devRef .tc (main_v3 : Ref sig .tc)) = _ from afterTail_r3 (V3 m d), V3_r0, V3_r1, V3_r2]
  rfl

/-! ## Main -/

/-- What main leaves: the four arguments as they were and the result at `resW`. -/
abbrev FIN (d : Dev nD) : sProp 𝕄 :=
  iprop((aLoc d ↦{fullShare} m (aLoc d)) ∗ ((SparseCore.T d).loc main_arg1 ↦{fullShare} m ((SparseCore.T d).loc main_arg1))
    ∗ (uLoc d ↦{fullShare} m (uLoc d)) ∗ ((SparseCore.T d).loc main_arg3 ↦{fullShare} m ((SparseCore.T d).loc main_arg3))
    ∗ ((SparseCore.T d).loc main_v4 ↦{fullShare} resW m d))

theorem fin_of_held (d : Dev nD) : (held (SparseCore.T d) arrs ((opR (F := F)).result (afterTail (V3 m d))) : sProp 𝕄) ⊢ FIN m d := by
  rw [show (opR (F := F)).result (afterTail (V3 m d)) = V5 m d from rfl, held_arrs, V5_kept m d rA (by decide) (by decide) (by decide) (by decide) (by decide),
    V5_kept m d rW (by decide) (by decide) (by decide) (by decide) (by decide),
    V5_kept m d rU (by decide) (by decide) (by decide) (by decide) (by decide),
    V5_kept m d rN (by decide) (by decide) (by decide) (by decide) (by decide), V5_r4]
  iintro ⟨HA, HW, HU, HN, -, -, -, -, HR⟩
  isplitl [HA]; · iexact HA
  isplitl [HW]; · iexact HW
  isplitl [HU]; · iexact HU
  isplitl [HN]; · iexact HN
  iexact HR

/-- The arrays at the launch, the three of the call apart. -/
theorem held_V0 (d : Dev nD) : ∃ R : sProp 𝕄,
    (held (SparseCore.T d) arrs (V0 m d) ⊢ iprop(((aLoc d ↦{fullShare} m (aLoc d)) ∗ (uLoc d ↦{fullShare} m (uLoc d)) ∗ (oLoc d ↦{fullShare} m (oLoc d))) ∗ R))
      ∧ (iprop(((aLoc d ↦{fullShare} m (aLoc d)) ∗ (uLoc d ↦{fullShare} m (uLoc d)) ∗ (oLoc d ↦{fullShare} outW m d)) ∗ R)
          ⊢ held (SparseCore.T d) arrs (V1 m d)) := by
  refine ⟨iprop(((SparseCore.T d).loc main_arg1 ↦{fullShare} V0 m d rW) ∗ ((SparseCore.T d).loc main_arg3 ↦{fullShare} V0 m d rN)
    ∗ ((SparseCore.T d).loc main_v1 ↦{fullShare} V0 m d r1) ∗ ((SparseCore.T d).loc main_v2 ↦{fullShare} V0 m d r2)
    ∗ ((SparseCore.T d).loc main_v3 ↦{fullShare} V0 m d r3) ∗ (SparseCore.T d).loc main_v4 ↦{fullShare} V0 m d r4), ?_, ?_⟩
  · rw [held_arrs]
    iintro ⟨HA, HW, HU, HN, H0, H1, H2, H3, H4⟩
    isplitl [HA HU H0]
    · isplitl [HA]; · iexact HA
      isplitl [HU]; · iexact HU
      iexact H0
    isplitl [HW]; · iexact HW
    isplitl [HN]; · iexact HN
    isplitl [H1]; · iexact H1
    isplitl [H2]; · iexact H2
    isplitl [H3] <;> iassumption
  · rw [held_arrs, V1_r0, V1_of_ne m d rA (by decide), V1_of_ne m d rW (by decide), V1_of_ne m d rU (by decide), V1_of_ne m d rN (by decide),
      V1_of_ne m d r1 (by decide), V1_of_ne m d r2 (by decide), V1_of_ne m d r3 (by decide), V1_of_ne m d r4 (by decide)]
    iintro ⟨⟨HA, HU, H0⟩, HW, HN, H1, H2, H3, H4⟩
    isplitl [HA]; · iexact HA
    isplitl [HW]; · iexact HW
    isplitl [HU]; · iexact HU
    isplitl [HN]; · iexact HN
    isplitl [H0]; · iexact H0
    isplitl [H1]; · iexact H1
    isplitl [H2]; · iexact H2
    isplitl [H3]; · iexact H3
    iexact H4

theorem bufs_opW : (opW (F := F)).bufs ⊆ arrs := show ({rW, r1} : Finset (DevRef τ sig)) ⊆ arrs by decide
theorem bufs_opN : (opN (F := F)).bufs ⊆ arrs := show ({rN, r2} : Finset (DevRef τ sig)) ⊆ arrs by decide
theorem bufs_opR : (opR (F := F)).bufs ⊆ arrs := show ({r3, r4} : Finset (DevRef τ sig)) ⊆ arrs by decide

theorem hmain (κ : GSem nD τ sig → ℕ) (d : Dev nD) :
    iprop((K (F := F)).ctx EH (P m) κ ∗ (K (F := F)).tcSt EH d 0 ∗ (K (F := F)).tcRes m ρ d ∗ tailGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hout, hin⟩ := held_V0 m d
  unfold SparseCore.Cfg.tcRes SparseCore.Cfg.tcEnd
  rw [show (unscopedBufs d (fun b => m ((SparseCore.T d).loc b)) : sProp 𝕄) = held (SparseCore.T d) arrs (V0 m d) from unscoped_arrs d (V0 m d)]
  simp only [main, wp_bind, wp_pure]
  iintro ⟨#Hctx, Hst, ⟨Hb, Hheld, Hts, -⟩, HG⟩
  ihave H := hout $$ Hheld
  icases H with ⟨H3, HR⟩
  iapply ((K (F := F)).wp_run (D (F := F)) 𝒱 (EH := EH) (P := P m) κ d 0) $$ [Hst H3 HR Hb Hts HG]
  isplitr; · iexact Hctx
  isplitl [Hst]; · iexact Hst
  isplitl [H3]
  · rw [st0_eq]; iexact H3
  iintro ⟨Hst, Hdn⟩
  ihave H3 := (Entails.of_eq (dn0_eq m d)) $$ Hdn
  ihave Hheld := hin $$ [H3 HR]
  · isplitl [H3] <;> iassumption
  iapply (StableHlo.wp_hlo_within 𝒱 (SparseCore.T d) none Set.univ (op := opW (F := F)) (S := arrs) bufs_opW (V := V1 m d)) $$ [Hb Hheld]
  · isplitl [Hb] <;> iassumption
  iintro ⟨Hb, Hheld⟩
  rw [wp_ret]; imodintro
  iapply (StableHlo.wp_hlo_within 𝒱 (SparseCore.T d) none Set.univ (op := opN (F := F)) (S := arrs) bufs_opN (V := (opW (F := F)).result (V1 m d))) $$ [Hb Hheld]
  · isplitl [Hb] <;> iassumption
  iintro ⟨Hb, Hheld⟩
  rw [wp_ret]; imodintro
  iapply (tail_call m κ d (V3 m d)) $$ [Hst Hb Hheld HG Hts]
  isplitr; · iexact Hctx
  isplitl [Hst]; · iexact Hst
  isplitl [Hb]; · iexact Hb
  isplitl [Hheld]; · iexact Hheld
  isplitl [HG]; · iexact HG
  iintro ⟨Hst, Hb, Hheld⟩
  iapply (StableHlo.wp_hlo_within 𝒱 (SparseCore.T d) none Set.univ (op := opR (F := F)) (S := arrs) bufs_opR (V := afterTail (V3 m d))) $$ [Hb Hheld]
  · isplitl [Hb] <;> iassumption
  iintro ⟨Hb, Hheld⟩
  rw [wp_ret]; imodintro
  imodintro
  isplitl [Hst]; · iexact Hst
  isplitl [Hheld]; · iapply (fin_of_held m d) $$ Hheld
  isplitl [Hb] <;> iassumption

/-! ## The run -/

/-- What a device's memory holds at the end. -/
def fq (d : Dev nD) (s' : Phys nD τ sig (Elt F)) : Prop :=
  s'.mem.mem (aLoc d) = m (aLoc d) ∧ s'.mem.mem ((SparseCore.T d).loc main_arg1) = m ((SparseCore.T d).loc main_arg1)
    ∧ s'.mem.mem (uLoc d) = m (uLoc d) ∧ s'.mem.mem ((SparseCore.T d).loc main_arg3) = m ((SparseCore.T d).loc main_arg3)
    ∧ s'.mem.mem ((SparseCore.T d).loc main_v4) = resW m d

/-- A whole array held at a value is at that value in the memory. -/
theorem mem_at (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨HA, HW, HU, HN, HR⟩, HSI⟩
  ihave H := (mem_at s' _ _) $$ [HA HSI]
  · isplitl [HA] <;> iassumption
  icases H with ⟨%hA, HSI⟩
  ihave H := (mem_at s' _ _) $$ [HW HSI]
  · isplitl [HW] <;> iassumption
  icases H with ⟨%hW, HSI⟩
  ihave H := (mem_at s' _ _) $$ [HU HSI]
  · isplitl [HU] <;> iassumption
  icases H with ⟨%hU, HSI⟩
  ihave H := (mem_at s' _ _) $$ [HN HSI]
  · isplitl [HN] <;> iassumption
  icases H with ⟨%hN, HSI⟩
  ihave H := (mem_at s' _ _) $$ [HR HSI]
  · isplitl [HR] <;> iassumption
  icases H with ⟨%hR, -⟩
  ipureintro
  exact ⟨hA, hW, hU, hN, hR⟩

/-- What the launch's memory and semaphores are at the end. -/
def QC : PUnit × MemSt nD τ sig (Elt F) → Prop := fun r => (∀ c : Dev nD,
  r.2.mem (aLoc c) = m (aLoc c) ∧ r.2.mem ((SparseCore.T c).loc main_arg1) = m ((SparseCore.T c).loc main_arg1)
    ∧ r.2.mem (uLoc c) = m (uLoc c) ∧ r.2.mem ((SparseCore.T c).loc main_arg3) = m ((SparseCore.T c).loc main_arg3)
    ∧ r.2.mem ((SparseCore.T c).loc main_v4) = resW m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (tailGhost (F := F)) (FIN m) (u₀ (F := F)) (sep_elim_left.trans (hu₀ m)) (hmain m ρ) (fq m) (hfin m) (QC m) (fun _ h hz => ⟨h, hz⟩)

end Cert.Proof.SideIdeal

end
-- ==== Proof.Ids.lean ====
/-
  What the precondition says of the two arrays of numbers: every arc's path number is below 3200 and every path's
  utterance number below 16.
-/
module

public import proofs.«01_k».proof.Proof.Gen.Pre_ids_in_range
public import Idealize.ShloMosaic.Lib.ReduceAll
public import Idealize.ShloMosaic.Lib.Affine

@[expose] public section

noncomputable section

namespace Cert.Proof.Ids

open Idealize.ShloMosaic Cert.Pre_ids_in_range Cert.Pre_ids_in_range.Gen

/-- A word not below zero and below `n`, both signed, is below `n` as a number. -/
theorem lt_of_signed (v : BitVec 32) (n : ℕ) (hn : n < 2 ^ 31)
    (h : IntOp.andi (IntOp.cmpi .sge v 0#32) (IntOp.cmpi .slt v (BitVec.ofNat 32 n)) = 1#1) : v.toNat < n := by
  obtain ⟨h0, h1⟩ := IntOp.andi_eq_one.mp h
  rw [IntOp.cmpi_sge] at h0
  rw [IntOp.cmpi_slt] at h1
  simp only [BitVec.toInt_eq_toNat_cond, BitVec.toNat_ofNat] at h0 h1
  have hv := v.isLt
  rw [Nat.mod_eq_of_lt (by omega)] at h1
  split at h0 <;> split at h1 <;> split at h1 <;> omega

/-- The precondition, read. -/
theorem ids_ok {F : FTy → Type} [FloatOps F] (a : FVec F S1638400 .f32) (w : FVec F S3200 .f32) (u : IVec S1638400 32) (n : IVec S3200 32)
    (h : fn a w u n = fun _ => 1#1) : (∀ x, (u x).toNat < 3200) ∧ ∀ x, (n x).toNat < 16 := by
  have h0 := congrFun h (fun a => nomatch a)
  dsimp only [fn] at h0
  obtain ⟨hu, hn⟩ := IntOp.andi_eq_one.mp h0
  haveI : Subsingleton S_.Idx := ⟨fun x y => funext fun a => nomatch a⟩
  exact ⟨fun x => lt_of_signed _ 3200 (by decide) (Host.reduce_andi_all _ _ _ _ _ hu x),
    fun x => lt_of_signed _ 16 (by decide) (Host.reduce_andi_all _ _ _ _ _ hn x)⟩

end Cert.Proof.Ids

end
-- ==== Proof.Frames.lean ====
/-
  The frames: each program runs to its end, the kernel's from any memory whose numbers are in range and the reference
  from any memory at all, and leaves its arguments as they were and every semaphore at zero.
-/
module

public import proofs.«01_k».proof.Defs
public import proofs.«01_k».proof.Proof.BitsLaunch
public import proofs.«01_k».proof.Proof.IdealLaunch
public import proofs.«01_k».proof.Proof.Ids
public import proofs.«01_k».proof.Proof.Gen.ReferenceIdeal.Run

@[expose] public section

noncomputable section

namespace Cert.Proof.Frames

open Idealize.ShloMosaic Idealize.SL.Sem

/-- The precondition gives what the launch needs: every arc's path number is below 3200. -/
theorem bits_ok (m : (ℓ : Loc Cert.Kernel.nD Cert.Kernel.τ Cert.Kernel.sig) → Buf (Elt Bits) ℓ) (h : Cert.Pre_Kernel m) :
    Cert.Proof.SideBits.PreOK (F := Bits) m := fun d => (Cert.Proof.Ids.ids_ok _ _ _ _ (h d)).1

/-- The same over the extended reals. -/
theorem ideal_ok (m : (ℓ : Loc Cert.KernelIdeal.nD Cert.KernelIdeal.τ Cert.KernelIdeal.sig) → Buf (Elt Ideal) ℓ) (h : Cert.Pre_KernelIdeal m) :
    Cert.Proof.SideIdeal.PreOK (F := Ideal) m := fun d => (Cert.Proof.Ids.ids_ok _ _ _ _ (h d)).1

/-- The kernel runs to its end, its arguments and semaphores as they were. -/
theorem frame_bits : Cert.quiescent_Kernel := fun m g hpre =>
  (θ_run Cert.Kernel.defs _ _).mono (fun _ h => ⟨fun c => ⟨(h.1 c).1, (h.1 c).2.1, (h.1 c).2.2.1, (h.1 c).2.2.2.1⟩, h.2⟩)
    (Cert.Proof.SideBits.run_main (F := Bits) m g (bits_ok m hpre))

/-- So does the kernel over the extended reals. -/
theorem frame_ideal : Cert.quiescent_KernelIdeal := fun m g hpre =>
  (θ_run Cert.KernelIdeal.defs _ _).mono (fun _ h => ⟨fun c => ⟨(h.1 c).1, (h.1 c).2.1, (h.1 c).2.2.1, (h.1 c).2.2.2.1⟩, h.2⟩)
    (Cert.Proof.SideIdeal.run_main (F := Ideal) m g (ideal_ok m hpre))

/-- So does the reference, whatever its numbers are. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- In particular when its numbers are in range. -/
theorem frame_ref_in_range : Cert.quiescent_ReferenceIdeal_pre_ids_in_range := fun m g _ => frame_ref m g trivial

end Cert.Proof.Frames

end
-- ==== Proof.LossEq.lean ====
/-
  The equation between the two ways of writing the loss, over the extended reals. The reference weighs every path by
  the exponential of its log-probability less the logarithm of its utterance's total; the kernel divides, utterance by
  utterance, the weighted total by the total where the total is above zero. They agree at every value, infinite ones
  included: a total that is zero or infinite makes both sides' terms zero.
-/
module

public import Idealize.ShloMosaic.PureOps.Ideal.Laws

@[expose] public section

noncomputable section

namespace Cert.Proof.LossEq

open Idealize.ShloMosaic
open scoped BigOperators

/-- The exponential is never below zero. -/
theorem exp_nonneg (x : EReal) : 0 ≤ Ideal.exp x := by
  induction x using EReal.rec with
  | bot => exact le_refl _
  | top => exact le_top
  | coe r => exact EReal.coe_nonneg.mpr (Real.exp_pos r).le

/-- A zero exponential is that of minus infinity. -/
theorem exp_eq_zero {x : EReal} (h : Ideal.exp x = 0) : x = ⊥ := by
  induction x using EReal.rec with
  | bot => rfl
  | top => exact absurd h EReal.top_ne_zero
  | coe r => exact absurd (EReal.coe_eq_zero.mp h) (Real.exp_pos r).ne'

/-- Less plus infinity, everything is minus infinity. -/
theorem exp_sub_top (x : EReal) : Ideal.exp (x - ⊤) = 0 := by
  rw [sub_eq_add_neg, EReal.neg_top, EReal.add_bot]; rfl

/-- With a positive real total `d`, the exponential of `x - log d` is that of `x` over `d`. -/
theorem exp_sub_log {x : EReal} {d : ℝ} (hd : 0 < d) (hx : x ≠ ⊤) :
    Ideal.exp (x - Ideal.log (d : EReal)) = Ideal.exp x * ((d⁻¹ : ℝ) : EReal) := by
  have hl : Ideal.log (d : EReal) = ((Real.log d : ℝ) : EReal) := if_neg (not_le.mpr hd)
  rw [hl]
  induction x using EReal.rec with
  | bot =>
    rw [sub_eq_add_neg, EReal.bot_add]
    show (0 : EReal) = 0 * _
    rw [zero_mul]
  | top => exact absurd rfl hx
  | coe r =>
    rw [← EReal.coe_sub]
    show ((Real.exp (r - Real.log d) : ℝ) : EReal) = ((Real.exp r : ℝ) : EReal) * _
    rw [← EReal.coe_mul, Real.exp_sub, Real.exp_log hd, div_eq_mul_inv]

/-- A real factor that is not negative goes through a sum. -/
theorem sum_mul_coe {P : Type} (s : Finset P) (f : P → EReal) {c : ℝ} (hc : 0 ≤ c) :
    (∑ p ∈ s, f p) * (c : EReal) = ∑ p ∈ s, f p * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- One utterance's terms: the kernel's quotient is the sum of the reference's terms. -/
theorem utt_eq {P : Type} (s : Finset P) (l w : P → EReal) :
    (if 0 < ∑ p ∈ s, Ideal.exp (l p) then Ideal.div (∑ p ∈ s, Ideal.exp (l p) * w p) (∑ p ∈ s, Ideal.exp (l p)) else 0)
      = ∑ p ∈ s, Ideal.exp (l p - Ideal.log (∑ q ∈ s, Ideal.exp (l q))) * w p := by
  have hle : ∀ p ∈ s, Ideal.exp (l p) ≤ ∑ q ∈ s, Ideal.exp (l q) := fun p hp =>
    Finset.single_le_sum (f := fun q => Ideal.exp (l q)) (fun q _ => exp_nonneg (l q)) hp
  have h0 : 0 ≤ ∑ q ∈ s, Ideal.exp (l q) := Finset.sum_nonneg fun q _ => exp_nonneg (l q)
  generalize (∑ q ∈ s, Ideal.exp (l q)) = D at hle h0 ⊢
  by_cases hD : 0 < D
  · rw [if_pos hD]
    unfold Ideal.div
    rw [if_neg hD.ne']
    induction D using EReal.rec with
    | bot => exact absurd h0 (by simp)
    | top =>
      rw [EReal.inv_top, mul_zero]
      refine (Finset.sum_eq_zero fun p _ => ?_).symm
      show Ideal.exp (l p - ⊤) * w p = 0
      rw [exp_sub_top, zero_mul]
    | coe d =>
      have hd : 0 < d := EReal.coe_pos.mp hD
      rw [← EReal.coe_inv, sum_mul_coe _ _ (inv_nonneg.mpr hd.le)]
      refine Finset.sum_congr rfl fun p hp => ?_
      have hx : l p ≠ ⊤ := fun e => by
        have h := hle p hp
        rw [e] at h
        exact absurd (top_le_iff.mp h) (EReal.coe_ne_top d)
      rw [exp_sub_log hd hx, mul_assoc, mul_assoc, mul_comm (w p)]
  · rw [if_neg hD]
    have e : D = 0 := le_antisymm (not_lt.mp hD) h0
    subst e
    refine (Finset.sum_eq_zero fun p hp => ?_).symm
    have hb : l p = ⊥ := exp_eq_zero (le_antisymm (hle p hp) (exp_nonneg _))
    rw [hb, sub_eq_add_neg, EReal.bot_add]
    exact zero_mul _

/-- The loss: the kernel's sum over the utterances is the reference's sum over the paths. -/
theorem loss_eq {P U : Type} [Fintype P] [Fintype U] [DecidableEq U] (n : P → U) (l w : P → EReal) :
    (∑ u : U, if 0 < ∑ p, (if n p = u then Ideal.exp (l p) else 0) then
        Ideal.div (∑ p, if n p = u then Ideal.exp (l p) * w p else 0) (∑ p, if n p = u then Ideal.exp (l p) else 0) else 0)
      = ∑ p, Ideal.exp (l p - Ideal.log (∑ q, if n q = n p then Ideal.exp (l q) else 0)) * w p := by
  rw [← Finset.sum_fiberwise (s := Finset.univ) (g := n)]
  refine Finset.sum_congr rfl fun u _ => ?_
  simp only [← Finset.sum_filter]
  rw [utt_eq]
  refine Finset.sum_congr rfl fun p hp => ?_
  rw [(Finset.mem_filter.mp hp).2]

end Cert.Proof.LossEq
-- ==== Proof.SegSum.lean ====
/-
  What the partial sums hold, over the extended reals: row `w`, column `p` is the sum of the scores of tile `w`'s arcs
  whose path is `p`, so the column's sum over the 32 rows is the sum of the scores of all the arcs whose path is `p`.
-/
module

public import proofs.«01_k».proof.Proof.IdealTile
public import Idealize.ShloMosaic.PureOps.Ideal.Laws

@[expose] public section

noncomputable section

namespace Cert.Proof.SegSum

open Cert.KernelIdeal Cert.KernelIdeal.Gen Cert.Proof.SideIdeal
open Idealize.ShloMosaic
open scoped BigOperators

/-! ## One accumulating store -/

/-- An accumulating store, read at one accumulator: what was there, and the stored lanes that name it. -/
theorem storeIdx_at {s : Shape} {d : Fin 1 → ℕ} (f : s.Idx → EReal) (idxs : Fin s.rank → IVec ⟨1, d⟩ 32) (v : (⟨1, d⟩ : Shape).Idx → EReal)
    (h : ∀ a x, (idxs a x).toNat < s.size a) (j : s.Idx) :
    storeIdx (F := Ideal) (e := .f32) f idxs v (fun _ => 1#1) true h j
      = f j + ∑ k : Fin (d 0), if ∀ a, (j a).val = (idxs a (Shape.ofLane k)).toNat then v (Shape.ofLane k) else 0 := by
  have key : ∀ (L : List (Fin (d 0))) (g : s.Idx → EReal),
      L.foldl (fun (g : s.Idx → EReal) k => fun j => if (∀ a, (j a).val = (idxs a (Shape.ofLane k)).toNat)
          then g (idxAt idxs h (Shape.ofLane k)) + v (Shape.ofLane k) else g j) g j
        = g j + (L.map fun k => if ∀ a, (j a).val = (idxs a (Shape.ofLane k)).toNat then v (Shape.ofLane k) else 0).sum := by
    intro L
    induction L with
    | nil => intro g; simp
    | cons k L ih =>
      intro g
      rw [List.foldl_cons, ih, List.map_cons, List.sum_cons, ← add_assoc]
      congr 1
      by_cases hk : ∀ a, (j a).val = (idxs a (Shape.ofLane k)).toNat
      · rw [if_pos hk, if_pos hk]
        have e : idxAt idxs h (Shape.ofLane k) = j := funext fun a => Fin.ext (hk a).symm
        rw [e]
      · rw [if_neg hk, if_neg hk, add_zero]
  rw [Fin.sum_univ_def]
  refine Eq.trans ?_ (key (List.finRange (d 0)) f)
  unfold storeIdx
  refine congrFun (congrArg (fun G => List.foldl G f (List.finRange (d 0))) (funext fun g => funext fun k => ?_)) j
  dsimp only
  rw [if_pos (show (1#1 : BitVec 1) = 1 from rfl)]
  funext j
  split <;> rename_i hk
  · exact (if_pos hk).symm
  · exact (if_neg hk).symm

/-! ## A tile's accumulators -/

theorem trips_eq : k0_t2_loop.trips = 3200 := by decide +kernel
theorem off3_eq : ∀ t : Fin k0_t2_loop.trips, k0_off3 t 0 = 16 * t.val := by decide +kernel

/-- Arc `i` of a tile's block as an index. -/
def bix (i : ℕ) (h : i < 51200) : S51200.Idx := fun | 0 => ⟨i, h⟩ | ⟨_ + 1, h⟩ => absurd h (Nat.not_lt.2 (Nat.le_add_left _ _))

/-- What arc `i` of the block gives path `p`. -/
def given (a : S51200.Idx → EReal) (u : S51200.Idx → BitVec 32) (p : ℕ) (i : ℕ) : EReal :=
  if h : i < 51200 then (if p = (u (bix i h)).toNat then a (bix i h) else 0) else 0

theorem chunk_lt (t : Fin k0_t2_loop.trips) (k : Fin 16) : 16 * t.val + k.val < 51200 := by
  have h := t.isLt.trans_eq trips_eq
  have hk := k.isLt
  omega

/-- Lane `k` of a sixteen-lane vector. -/
def lane (k : Fin 16) : S16.Idx := Shape.ofLane (d := ![16]) k

/-- Lane `k` of chunk `t` is arc `16 t + k` of the block. -/
theorem chunk_idx (t : Fin k0_t2_loop.trips) (k : Fin 16) :
    (Rect.unit (s := S51200) (k0_off3 t) S16.size (k0_off3_inb t)).emb (lane k) = bix (16 * t.val + k.val) (chunk_lt t k) := by
  funext a
  obtain rfl : a = 0 := Subsingleton.elim _ _
  refine Fin.ext ?_
  show k0_off3 t 0 + 1 * k.val = 16 * t.val + k.val
  rw [off3_eq, one_mul]

theorem idChunk_at (u : S51200.Idx → BitVec 32) (t : Fin k0_t2_loop.trips) (k : Fin 16) :
    idChunk (F := Ideal) u t (lane k) = u (bix (16 * t.val + k.val) (chunk_lt t k)) := by
  rw [← chunk_idx]; rfl

theorem scoreChunk_at (a : S51200.Idx → EReal) (t : Fin k0_t2_loop.trips) (k : Fin 16) :
    scoreChunk (F := Ideal) a t (lane k) = a (bix (16 * t.val + k.val) (chunk_lt t k)) := by
  rw [← chunk_idx]; rfl

/-- One trip adds to each accumulator what the trip's sixteen arcs give its path. -/
theorem accStep_at (a : S51200.Idx → EReal) (u : S51200.Idx → BitVec 32) (t : Fin k0_t2_loop.trips) (g : S3200.Idx → EReal)
    (h : k0_chk1 (idChunk (F := Ideal) u t)) (p : Fin 3200) :
    accStep (F := Ideal) a u t g (pix p) = g (pix p) + ∑ k ∈ Finset.range 16, given a u p.val (16 * t.val + k) := by
  unfold accStep
  rw [dif_pos h, Finset.sum_range]
  refine (storeIdx_at (s := S3200) (d := ![16]) g ![idChunk (F := Ideal) u t] (scoreChunk (F := Ideal) a t) (k0_idx1_inb _ h) (pix p)).trans ?_
  refine congrArg (g (pix p) + ·) (Finset.sum_congr rfl fun (k : Fin 16) _ => ?_)
  unfold given
  rw [dif_pos (chunk_lt t k), ← idChunk_at u t k, ← scoreChunk_at a t k]
  refine if_congr ⟨fun q => q 0, fun q a => ?_⟩ rfl rfl
  obtain rfl : a = 0 := Subsingleton.elim _ _
  exact q

/-- After `n` trips: what the first `16 n` arcs give. -/
theorem acc_at (a : S51200.Idx → EReal) (u : S51200.Idx → BitVec 32) (h : ∀ t, k0_chk1 (idChunk (F := Ideal) u t)) (p : Fin 3200) :
    ∀ n, n ≤ 3200 → acc (F := Ideal) a u n (pix p) = ∑ i ∈ Finset.range (16 * n), given a u p.val i
  | 0, _ => by
    show Ideal.ofBits .f32 0x00000000#32 = _
    rw [Ideal.ofBits_zero_f32, Nat.mul_zero, Finset.range_zero, Finset.sum_empty]
  | n + 1, hn => by
    have hlt : n < k0_t2_loop.trips := by rw [trips_eq]; omega
    rw [acc, dif_pos hlt, accStep_at a u ⟨n, hlt⟩ _ (h _) p, acc_at a u h p n (by omega), Nat.mul_succ, Finset.sum_range_add]

variable (m : (ℓ : Loc nD τ sig) → Buf (Elt Ideal) ℓ)

/-- Arc `i` as an index. -/
def aix (i : ℕ) (h : i < 1638400) : S1638400.Idx := fun | 0 => ⟨i, h⟩ | ⟨_ + 1, h⟩ => absurd h (Nat.not_lt.2 (Nat.le_add_left _ _))

/-- What arc `i` gives path `p`. -/
def share (a : S1638400.Idx → EReal) (u : S1638400.Idx → BitVec 32) (p : ℕ) (i : ℕ) : EReal :=
  if h : i < 1638400 then (if p = (u (aix i h)).toNat then a (aix i h) else 0) else 0

theorem block_idx (L : grid0.Coords) (i : ℕ) (h : i < 51200) (h' : 51200 * tileNo L + i < 1638400) :
    (aRect L).emb (bix i h) = aix (51200 * tileNo L + i) h' := by
  funext a
  obtain rfl : a = 0 := Subsingleton.elim _ _
  exact Fin.ext (aRect_emb L (bix i h))

/-- Arc `i` of a tile's block is arc `51200 w + i`, `w` the tile's number. -/
theorem given_eq (d : Dev nD) (L : grid0.Coords) (p : ℕ) (i : ℕ) (h : i < 51200) :
    given (tileA (F := Ideal) m d L) (tileU (F := Ideal) m d L) p i = share (m (aLoc d)) (m (uLoc d)) p (51200 * tileNo L + i) := by
  have hw := tileNo_lt L
  have h' : 51200 * tileNo L + i < 1638400 := by omega
  unfold given share
  rw [dif_pos h, dif_pos h', ← block_idx L i h h']
  rfl

/-- The partial sums as extended reals. -/
def parts (d : Dev nD) : S32x3200.Idx → EReal := outW (F := Ideal) m d

/-- A partial sum: what the tile's arcs give the path. -/
theorem outW_at (hpre : PreOK (F := Ideal) m) (d : Dev nD) (x : S32x3200.Idx) (w : Fin 32) (p : Fin 3200) (hw : x 0 = w) (hp : x 1 = p) :
    parts m d x = ∑ i ∈ Finset.range 51200, share (m (aLoc d)) (m (uLoc d)) p.val (51200 * w.val + i) := by
  show tileAcc (F := Ideal) m d (tileOf (x 0)) (pix (x 1)) = _
  rw [hw, hp]
  unfold tileAcc
  rw [trips_eq, acc_at _ _ (fun t => idChunk_ok (F := Ideal) m hpre d (tileOf w) t) p 3200 (le_refl _)]
  refine Finset.sum_congr (congrArg Finset.range (by decide)) fun i hi => ?_
  rw [given_eq m d _ _ _ (Finset.mem_range.mp hi), tileNo_tileOf]

/-- Sums over consecutive blocks of `k` make the sum over all of them. -/
theorem sum_blocks (G : ℕ → EReal) (k : ℕ) : ∀ n, ∑ w ∈ Finset.range n, ∑ i ∈ Finset.range k, G (k * w + i) = ∑ i ∈ Finset.range (k * n), G i
  | 0 => by rw [Nat.mul_zero, Finset.range_zero, Finset.sum_empty, Finset.sum_empty]
  | n + 1 => by rw [Finset.sum_range_succ, sum_blocks G k n, Nat.mul_succ, Finset.sum_range_add]

/-- The log-probability of path `p`: the sum of the scores of its arcs. -/
def logp (a : S1638400.Idx → EReal) (u : S1638400.Idx → BitVec 32) (p : Fin 3200) : EReal :=
  ∑ x : S1638400.Idx, if p.val = (u x).toNat then a x else 0

/-- The arcs by number and as indices. -/
def arcEquiv : Fin 1638400 ≃ S1638400.Idx where
  toFun i := aix i.val i.isLt
  invFun x := x 0
  left_inv _ := rfl
  right_inv x := funext fun a => by
    obtain rfl : a = 0 := Subsingleton.elim _ _
    rfl

theorem sum_share (a : S1638400.Idx → EReal) (u : S1638400.Idx → BitVec 32) (p : Fin 3200) :
    ∑ i ∈ Finset.range 1638400, share a u p.val i = logp a u p := by
  unfold logp
  rw [Finset.sum_range, ← arcEquiv.sum_comp]
  refine Finset.sum_congr rfl fun i _ => ?_
  unfold share
  rw [dif_pos i.isLt]
  rfl

/-- The column's sum over the 32 rows is the path's log-probability. -/
theorem column_sum (hpre : PreOK (F := Ideal) m) (d : Dev nD) (p : Fin 3200) (x : Fin 32 → S32x3200.Idx) (h0 : ∀ w, x w 0 = w) (h1 : ∀ w, x w 1 = p) :
    ∑ w : Fin 32, parts m d (x w) = logp (m (aLoc d)) (m (uLoc d)) p := by
  rw [← sum_share, show (1638400 : ℕ) = 51200 * 32 by decide, ← sum_blocks, Finset.sum_range]
  exact Finset.sum_congr rfl fun w _ => outW_at m hpre d (x w) w p (h0 w) (h1 w)

end Cert.Proof.SegSum
-- ==== Proof.Tail.lean ====
/-
  What the tail computes, over the extended reals: from the table of partial sums, the weights and the utterance
  numbers, the sum over the sixteen utterances of the weighted total of the utterance's probabilities over their total,
  where that total is above zero.
-/
module

public import proofs.«01_k».proof.Proof.IdealRegion
public import Idealize.ShloMosaic.PureOps.Ideal.Laws

@[expose] public section

noncomputable section

namespace Cert.Proof.Tail

open Cert.KernelIdeal Cert.KernelIdeal.Gen Cert.Proof.SideIdeal
open Idealize.ShloMosaic Idealize.ShloMosaic.ValueIdx
open scoped BigOperators

section Shape
variable {F : FTy → Type} [FloatOps F]

/-- The total of a row's entries at the lanes a mask selects. -/
def maskTotal (c : IVec S1x3200 1) (v : FVec F S1x3200 .f32) : F .f32 :=
  extractAt ![0, 0, 0] (shapeCast S1x1x1 (multiReduction .add [1, 2] S1
    (shapeCast S1x1x3200 (select c v (broadcast S1x3200 (Scalar.ofBits .f32 0x00000000#32))) shapeCasts_S1x3200_S1x1x3200)
    0x00000000#32 reduces_S1x1x3200_S1 (.inl rfl) rfl) shapeCasts_S1_S1x1x1) inpos_S1x1x1_p0_0_0

/-- One utterance's share of the loss. -/
def uttTerm (p pw : FVec F S1x3200 .f32) (un : IVec S1x3200 32) (k : BitVec 32) : F .f32 :=
  Scalar.select (Scalar.cmpf .ogt (maskTotal (cmpi .eq un (broadcast S1x3200 k)) p) (Scalar.ofBits .f32 0x00000000#32))
    (Scalar.divf (maskTotal (cmpi .eq un (broadcast S1x3200 k)) pw) (maskTotal (cmpi .eq un (broadcast S1x3200 k)) p))
    (Scalar.ofBits .f32 0x00000000#32)

/-- The sixteen shares added up, first to last, from zero. -/
def chain (g : BitVec 32 → F .f32) : F .f32 :=
  Scalar.addf (Scalar.addf (Scalar.addf (Scalar.addf (Scalar.addf (Scalar.addf (Scalar.addf (Scalar.addf
    (Scalar.addf (Scalar.addf (Scalar.addf (Scalar.addf (Scalar.addf (Scalar.addf (Scalar.addf (Scalar.addf
      (Scalar.ofBits .f32 0x00000000#32) (g 0#32)) (g 1#32)) (g 2#32)) (g 3#32)) (g 4#32)) (g 5#32)) (g 6#32)) (g 7#32))
      (g 8#32)) (g 9#32)) (g 10#32)) (g 11#32)) (g 12#32)) (g 13#32)) (g 14#32)) (g 15#32)

/-- The tail's number is the chain of the shares. -/
theorem tailOut_chain (x : Vec F S32x3200 .f32) (w : Vec F S1x3200 .f32) (u : Vec F S1x3200 .i32) :
    tailOut x w u = broadcast S1x1 (chain (uttTerm (k1_pay1 x) (k1_pay2 x w) (k1_pay3 u))) := rfl

end Shape

/-- A masked total over the extended reals. -/
theorem maskTotal_at (c : IVec S1x3200 1) (v : S1x3200.Idx → EReal) :
    maskTotal (F := Ideal) c v = ∑ z : S1x3200.Idx, if c z = 1 then v z else 0 := by
  unfold maskTotal
  refine (Ideal.multiReduction_add_total _ _ reduces_S1x1x3200_S1 (by decide) (.inl rfl) rfl _).trans ?_
  refine ((Shape.reshapeEquiv shapeCasts_S1x3200_S1x1x3200).sum_comp _).trans ?_
  refine Finset.sum_congr rfl fun z _ => ?_
  show (if c z = 1 then v z else Ideal.ofBits .f32 0x00000000#32) = _
  rw [Ideal.ofBits_zero_f32]

/-- An utterance's share over the extended reals. -/
theorem uttTerm_at (p pw : S1x3200.Idx → EReal) (un : IVec S1x3200 32) (k : BitVec 32) :
    uttTerm (F := Ideal) p pw un k
      = if 0 < ∑ z : S1x3200.Idx, (if un z = k then p z else 0) then
          Ideal.div (∑ z : S1x3200.Idx, if un z = k then pw z else 0) (∑ z : S1x3200.Idx, if un z = k then p z else 0) else 0 := by
  have hm : ∀ v : S1x3200.Idx → EReal, maskTotal (F := Ideal) (cmpi .eq un (broadcast S1x3200 k)) v
      = ∑ z : S1x3200.Idx, if un z = k then v z else 0 := fun v => by
    rw [maskTotal_at]
    refine Finset.sum_congr rfl fun z _ => if_congr ?_ rfl rfl
    show BitVec.ofBool (un z == k) = 1 ↔ _
    rw [show (un z == k) = decide (un z = k) from rfl]
    by_cases e : un z = k
    · simp [e]
    · simp [e]
  unfold uttTerm
  rw [hm, hm]
  generalize (∑ z : S1x3200.Idx, if un z = k then p z else 0) = D
  generalize (∑ z : S1x3200.Idx, if un z = k then pw z else 0) = N
  show (if BitVec.ofBool (decide (Ideal.ofBits .f32 0x00000000#32 < D)) = 1 then Ideal.div N D else Ideal.ofBits .f32 0x00000000#32) = _
  rw [Ideal.ofBits_zero_f32]
  by_cases h : 0 < D
  · simp [h]
  · simp [h]

/-- The chain over the extended reals is a sum. -/
theorem chain_at (g : BitVec 32 → EReal) : chain (F := Ideal) g = ∑ k : Fin 16, g (BitVec.ofNat 32 k.val) := by
  show Ideal.ofBits .f32 0x00000000#32 + g 0#32 + g 1#32 + g 2#32 + g 3#32 + g 4#32 + g 5#32 + g 6#32 + g 7#32 + g 8#32 + g 9#32 + g 10#32
    + g 11#32 + g 12#32 + g 13#32 + g 14#32 + g 15#32 = _
  rw [Ideal.ofBits_zero_f32, zero_add]
  simp only [Fin.sum_univ_succ, Fin.sum_univ_zero, add_zero, add_assoc]
  rfl

/-- The entry of the table at row `w` and the path `p`. -/
def cell (w : Fin 32) (p : S3200.Idx) : S32x3200.Idx := fun
  | 0 => w | 1 => p 0 | ⟨_ + 2, h⟩ => absurd h (Nat.not_lt.2 (Nat.le_add_left _ _))

/-- The path that a lane of a row is. -/
def path : S1x3200.Idx ≃ S3200.Idx := Shape.reshapeEquiv shapeCasts_S3200_S1x3200

/-- The sum of a column of the table. -/
theorem column_at (x : FVec Ideal S32x3200 .f32) (j : S3200.Idx) :
    multiReduction (F := Ideal) .add [0] S3200 x 0x00000000#32 reduces_S32x3200_S3200 (.inl rfl) rfl j = ∑ w : Fin 32, x (cell w j) := by
  show Ideal.reduceAdd reduces_S32x3200_S3200 x j = _
  refine (Ideal.reduceAdd_single reduces_S32x3200_S3200 x j).trans ?_
  refine Finset.sum_congr rfl fun w _ => ?_
  refine congrArg x (funext fun a => Fin.ext ?_)
  match a with
  | 0 => rfl
  | 1 => rfl

/-- A path's probability: the exponential of its column's sum. -/
theorem pay1_at (x : S32x3200.Idx → EReal) (z : S1x3200.Idx) :
    k1_pay1 (F := Ideal) x z = Ideal.exp (∑ w : Fin 32, x (cell w (path z))) := by
  have e : shapeCast S32x3200 x shapeCasts_S32x3200_S32x3200 = x := by
    funext y
    unfold shapeCast
    rw [Shape.reshapeEquiv_self]
  rw [← column_at]
  unfold k1_pay1
  rw [e]
  rfl

/-- The tail's number. -/
theorem tailOut_at (x : S32x3200.Idx → EReal) (w : S3200.Idx → EReal) (u : S3200.Idx → BitVec 32) (j : S1x1.Idx) :
    tailOut (F := Ideal) x (shapeCast S1x3200 w shapeCasts_S3200_S1x3200) (shapeCast S1x3200 u shapeCasts_S3200_S1x3200) j
      = ∑ k : Fin 16, if 0 < ∑ p : S3200.Idx, (if u p = BitVec.ofNat 32 k.val then Ideal.exp (∑ r : Fin 32, x (cell r p)) else 0) then
          Ideal.div (∑ p : S3200.Idx, if u p = BitVec.ofNat 32 k.val then Ideal.exp (∑ r : Fin 32, x (cell r p)) * w p else 0)
            (∑ p : S3200.Idx, if u p = BitVec.ofNat 32 k.val then Ideal.exp (∑ r : Fin 32, x (cell r p)) else 0) else 0 := by
  rw [tailOut_chain]
  refine (chain_at _).trans (Finset.sum_congr rfl fun k _ => ?_)
  rw [uttTerm_at]
  have hu : ∀ z, k1_pay3 (F := Ideal) (shapeCast S1x3200 u shapeCasts_S3200_S1x3200) z = u (path z) := fun z => by
    show u (Shape.reshapeEquiv _ (Shape.reshapeEquiv _ z)) = _
    rw [Shape.reshapeEquiv_self]; rfl
  have hw : ∀ z, k1_pay2 (F := Ideal) x (shapeCast S1x3200 w shapeCasts_S3200_S1x3200) z
      = Ideal.exp (∑ r : Fin 32, x (cell r (path z))) * w (path z) := fun z => by
    rw [← pay1_at]
    show _ * w (Shape.reshapeEquiv _ (Shape.reshapeEquiv _ z)) = _
    rw [Shape.reshapeEquiv_self]; rfl
  simp only [hu, hw, pay1_at]
  rw [path.sum_comp fun p => if u p = BitVec.ofNat 32 k.val then Ideal.exp (∑ r : Fin 32, x (cell r p)) else 0,
    path.sum_comp fun p => if u p = BitVec.ofNat 32 k.val then Ideal.exp (∑ r : Fin 32, x (cell r p)) * w p else 0]

end Cert.Proof.Tail
-- ==== Proof.Lookup.lean ====
/-
  The host's segment sum and look-up, read at one entry: numbers scattered with addition into a vector of zeros, one
  index word per number, and a vector looked up at one index word per entry.
-/
module

public import Idealize.ShloMosaic.PureOps.Ideal.Laws
public import Idealize.ShloMosaic.Lib.ValueIdx
public import Idealize.ShloMosaic.Lib.Routing.OpsPair

@[expose] public section

noncomputable section

namespace Cert.Proof.Lookup

open Idealize.ShloMosaic Idealize.ShloMosaic.ValueIdx
open scoped BigOperators

/-- A vector of `n` entries, and a column of `n` one-word rows. -/
abbrev Row (n : ℕ) : Shape := ⟨1, ![n]⟩
abbrev Col (n : ℕ) : Shape := ⟨2, ![n, 1]⟩

/-- The row of a column that belongs to an entry. -/
abbrev rowOf {n : ℕ} (k : (Row n).Idx) : (Col n).Idx := ix2 (k 0) (0 : Fin 1)

/-- The scatter of `M` numbers into `N`, one index word each. -/
abbrev segDims (N M : ℕ) (wf : ScatterDims.WF (Row N) (Col M) (Row M) [] [0] [0] 1) : ScatterDims (Row N) (Col M) (Row M) where
  updateWindowDims := []
  insertedWindowDims := [0]
  scatterDimsToOperandDims := [0]
  indexVectorDim := 1
  wf := wf

/-- Number `k` lands at the entry its index word, read signed, is. -/
theorem lands {N M : ℕ} (wf : ScatterDims.WF (Row N) (Col M) (Row M) [] [0] [0] 1) (idx : IVec (Col M) 32) (k : (Row M).Idx) (i : (Row N).Idx) :
    (segDims N M wf).resultIdx? k idx = some i ↔ (idx (rowOf k)).toInt = ((i 0).val : Int) := by
  have hw : (segDims N M wf).window k 0 = 0 := by
    unfold ScatterDims.window
    exact dif_neg (by simp [ScatterDims.sKept, Shape.kept])
  have hs : (segDims N M wf).start k idx 0 = (idx (rowOf k)).toInt := by
    unfold ScatterDims.start
    rw [dif_pos (List.mem_singleton.mpr rfl)]
    refine congrArg (fun z => (idx z).toInt) (funext fun b => Fin.ext ?_)
    match b with
    | 0 => rfl
    | 1 => rfl
  rw [Routing.resultIdx?_eq_some]
  constructor
  · intro h
    have h0 := h 0
    rw [hw, hs] at h0
    omega
  · intro h a
    obtain rfl : a = 0 := Subsingleton.elim _ _
    rw [hw, hs, h]
    omega

/-- The segment sum: entry `i` is what was there and the numbers whose index is `i`. -/
theorem scatterAdd_at {N M : ℕ} (wf : ScatterDims.WF (Row N) (Col M) (Row M) [] [0] [0] 1) (x : FVec Ideal (Row N) .f32) (idx : IVec (Col M) 32)
    (upd : FVec Ideal (Row M) .f32) (i : (Row N).Idx) :
    Host.scatterAdd (segDims N M wf) x idx upd i
      = (x i : EReal) + ∑ k : (Row M).Idx, if (idx (rowOf k)).toInt = ((i 0).val : Int) then (upd k : EReal) else 0 := by
  show (x i : EReal) + ∑ k ∈ Finset.univ.filter (fun k => (segDims N M wf).resultIdx? k idx = some i), (upd k : EReal) = _
  rw [Finset.sum_filter]
  exact congrArg ((x i : EReal) + ·) (Finset.sum_congr rfl fun k _ => if_congr (lands wf idx k i) rfl rfl)

/-- The look-up of `M` entries in a vector of `N`, one index word each. -/
abbrev lookDims (N M : ℕ) (wf : GatherDims.WF (Row N) (Col M) (Row M) [] [0] [] [0] [] 1 ![1]) : GatherDims (Row N) (Col M) (Row M) where
  offsetDims := []
  collapsedSliceDims := [0]
  operandBatchingDims := []
  startIndicesBatchingDims := []
  startIndexMap := [0]
  indexVectorDim := 1
  sliceSizes := ![1]
  wf := wf

/-- The look-up at an entry whose index word is in range: the vector there. -/
theorem gather_at {α : Type} {N M : ℕ} (wf : GatherDims.WF (Row N) (Col M) (Row M) [] [0] [] [0] [] 1 ![1]) (x : (Row N).Idx → α)
    (idx : IVec (Col M) 32) (k : (Row M).Idx) (i : (Row N).Idx) (hi : (idx (rowOf k)).toInt = ((i 0).val : Int)) :
    Host.gather (lookDims N M wf) x idx k = x i := by
  unfold Host.gather
  refine congrArg x (funext fun a => ?_)
  obtain rfl : a = 0 := Subsingleton.elim _ _
  refine Fin.ext ?_
  show (lookDims N M wf).start k idx 0 + (lookDims N M wf).batchCoord k 0 + (lookDims N M wf).offCoord k 0 = (i 0).val
  rw [GatherDims.batchCoord_eq_zero _ _ _ (by simp), GatherDims.offCoord_eq_zero _ _ _ (fun h => ((GatherDims.mem_sKept _ _).mp h).1 (List.mem_singleton.mpr rfl))]
  have hs : (lookDims N M wf).start k idx 0 = min (idx (rowOf k)).toInt.toNat (N - 1) := by
    unfold GatherDims.start
    rw [dif_pos (List.mem_singleton.mpr rfl)]
    refine congrArg (fun z => min (idx z).toInt.toNat (N - 1)) (funext fun b => Fin.ext ?_)
    match b with
    | 0 => rfl
    | 1 => rfl
  have hlt : (i 0).val < N := (i 0).isLt
  rw [hs, hi]
  omega

end Cert.Proof.Lookup
-- ==== Proof.RefValue.lean ====
/-
  What the reference computes, over the extended reals, when the path and utterance numbers are in range: the sum over
  the paths of the weight times the exponential of the path's log-probability less the logarithm of its utterance's
  total.
-/
module

public import proofs.«01_k».proof.Proof.Gen.ReferenceIdeal
public import proofs.«01_k».proof.Proof.Lookup
public import Idealize.ShloMosaic.Lib.Pipeline.Value
public import Idealize.ShloMosaic.Lib.IdealHost
public import Idealize.ShloMosaic.Lib.ReduceAll
public import Idealize.ShloMosaic.Lib.Affine

@[expose] public section

noncomputable section

namespace Cert.Proof.RefValue

open Cert.ReferenceIdeal Cert.ReferenceIdeal.Gen
open Idealize.ShloMosaic Idealize.ShloMosaic.ValueIdx Cert.Proof.Lookup
open scoped BigOperators

/-! ## The reference's term, named piece by piece -/

section Term
variable (a : FVec Ideal S1638400 .f32) (w : FVec Ideal S3200 .f32) (u : IVec S1638400 32) (n : IVec S3200 32)

/-- The paths' log-probabilities. -/
def refLogp : FVec Ideal S3200 .f32 :=
  Host.divf (Host.scatterAdd scatter_S3200_S1638400x1_S1638400_n_0_0_1 (broadcastInDim S3200 ![] bcast_S_S3200 (constant S_ .f32 0x00000000#32))
    (broadcastInDim S1638400x1 ![0] bcast_S1638400_S1638400x1_0 u) a) (broadcastInDim S3200 ![] bcast_S_S3200 (constant S_ .f32 0x3F800000#32))

/-- The utterances' totals. -/
def refDen : FVec Ideal S16 .f32 :=
  Host.scatterAdd scatter_S16_S3200x1_S3200_n_0_0_1 (broadcastInDim S16 ![] bcast_S_S16 (constant S_ .f32 0x00000000#32))
    (broadcastInDim S3200x1 ![0] bcast_S3200_S3200x1_0 n) (Host.exp (refLogp a u))

/-- The index words of the look-up, a negative one wrapped, as a column. -/
def refCol : IVec S3200x1 32 :=
  broadcastInDim S3200x1 ![0] bcast_S3200_S3200x1_0 (select (cmpi .slt n (broadcastInDim S3200 ![] bcast_S_S3200 (constantI S_ 32 0#32)))
    (addi n (broadcastInDim S3200 ![] bcast_S_S3200 (constantI S_ 32 16#32))) n)

/-- Whether each index word is in range. -/
def refIn : IVec S3200 1 :=
  Host.reduce IntOp.andi (andi (cmpi .sge (refCol n) (broadcastInDim S3200x1 ![] bcast_S_S3200x1 (constantI S_ 32 0#32)))
    (cmpi .sle (refCol n) (broadcastInDim S3200x1 ![0, 1] bcast_S1x1_S3200x1_0_1 (broadcastInDim S1x1 ![1] bcast_S1_S1x1_1 (constantI S1 32 15#32)))))
    (constantI S_ 1 1#1) reducesTo_S3200x1_S3200_d1 h_S_

/-- The logarithm of each path's utterance's total. -/
def refLook : FVec Ideal S3200 .f32 :=
  select (refIn n) (Host.gather gather_S16_S3200x1_S3200_n_0_n_n_0_1_1 (Host.log (refDen a u n)) (refCol n))
    (broadcastInDim S3200 ![] bcast_S_S3200 (constant S_ .f32 0x7FC00000#32))

/-- The loss. -/
def refTerm : FVec Ideal S_ .f32 :=
  Host.reduceAdd (mulf (Host.exp (subf (refLogp a u) (refLook a u n))) w) (constant S_ .f32 0x00000000#32) reducesTo_S3200_S_d0 h_S_

end Term

/-! ## Its value -/

/-- A word below `2³¹` read signed. -/
theorem toInt_of_lt {v : BitVec 32} (h : v.toNat < 2 ^ 31) : v.toInt = (v.toNat : Int) := by
  rw [BitVec.toInt_eq_toNat_cond]
  exact if_pos (by omega)

/-- A vector laid out as a column. -/
theorem col_at {N : ℕ} (hN : N ≠ 1) (h : (Row N).BroadcastsInDim (Col N) ![0]) (v : IVec (Row N) 32) (k : (Row N).Idx) :
    broadcastInDim (Col N) ![0] h v (rowOf k) = v k := by
  refine broadcastInDim_apply _ h v (rowOf k) k fun b => ?_
  obtain rfl : b = 0 := Subsingleton.elim _ _
  exact (if_neg hN).symm

variable (a : S1638400.Idx → EReal) (w : S3200.Idx → EReal) (u : IVec S1638400 32) (n : IVec S3200 32)

/-- The log-probability of a path: the sum of its arcs' scores. -/
def lp (p : S3200.Idx) : EReal := ∑ x : S1638400.Idx, if (p 0).val = (u x).toNat then a x else 0

variable (hu : ∀ x, (u x).toNat < 3200) (hn : ∀ x, (n x).toNat < 16)

include hu in
theorem refLogp_at (p : S3200.Idx) : (refLogp a u p : EReal) = lp a u p := by
  show Ideal.div (Host.scatterAdd (F := Ideal) (segDims 3200 1638400 _) (broadcastInDim S3200 ![] bcast_S_S3200 (constant S_ .f32 0x00000000#32))
    (broadcastInDim S1638400x1 ![0] bcast_S1638400_S1638400x1_0 u) a p) (Ideal.ofBits .f32 0x3F800000#32) = _
  rw [Ideal.ofBits_one_f32, scatterAdd_at]
  show Ideal.div (Ideal.ofBits .f32 0x00000000#32 + _) 1 = _
  rw [Ideal.ofBits_zero_f32, zero_add]
  have h1 : ∀ y : EReal, Ideal.div y 1 = y := fun y => by
    unfold Ideal.div
    rw [if_neg one_ne_zero, inv_one, mul_one]
  rw [h1]
  refine Finset.sum_congr rfl fun x _ => if_congr ?_ rfl rfl
  rw [col_at (N := 1638400) (by decide), toInt_of_lt (by have := hu x; omega)]
  omega

include hu hn in
theorem refDen_at (i : S16.Idx) :
    (refDen a u n i : EReal) = ∑ q : S3200.Idx, if (n q).toNat = (i 0).val then Ideal.exp (lp a u q) else 0 := by
  show Host.scatterAdd (F := Ideal) (segDims 16 3200 _) (broadcastInDim S16 ![] bcast_S_S16 (constant S_ .f32 0x00000000#32))
    (broadcastInDim S3200x1 ![0] bcast_S3200_S3200x1_0 n) (Host.exp (refLogp a u)) i = _
  rw [scatterAdd_at]
  show Ideal.ofBits .f32 0x00000000#32 + _ = _
  rw [Ideal.ofBits_zero_f32, zero_add]
  refine Finset.sum_congr rfl fun q _ => ?_
  rw [col_at (N := 3200) (by decide), toInt_of_lt (by have := hn q; omega)]
  refine if_congr (by omega) ?_ rfl
  show Ideal.exp (refLogp a u q) = _
  rw [refLogp_at a u hu]

include hn in
theorem refCol_at (z : S3200x1.Idx) (p : S3200.Idx) (hz : z = rowOf p) : refCol n z = n p := by
  subst hz
  unfold refCol
  rw [col_at (N := 3200) (by decide)]
  show Scalar.select (IntOp.cmpi .slt (n p) 0#32) _ (n p) = n p
  exact Routing.wrap_of_lt _ _ (by have := hn p; omega)

theorem col_rows (z : S3200x1.Idx) : z = rowOf (ix1 (z 0) : S3200.Idx) := by
  funext b
  match b with
  | 0 => rfl
  | 1 => exact Subsingleton.elim (α := Fin 1) _ _

include hn in
theorem refIn_at (p : S3200.Idx) : refIn n p = 1#1 := by
  refine Host.reduce_andi_one _ _ _ _ p rfl fun z => ?_
  have e := refCol_at n hn z _ (col_rows z)
  have hlt := hn (ix1 (z 0) : S3200.Idx)
  refine IntOp.andi_eq_one.mpr ⟨?_, ?_⟩
  · show IntOp.cmpi .sge (refCol n z) 0#32 = 1#1
    rw [e, IntOp.cmpi_sge, show (0#32 : BitVec 32).toInt = 0 by decide, toInt_of_lt (by omega)]
    exact Int.natCast_nonneg _
  · show IntOp.cmpi .sle (refCol n z) 15#32 = 1#1
    rw [e, IntOp.cmpi_sle, show (15#32 : BitVec 32).toInt = 15 by decide, toInt_of_lt (by omega)]
    omega

include hu hn in
theorem refLook_at (p : S3200.Idx) :
    (refLook a u n p : EReal) = Ideal.log (∑ q : S3200.Idx, if (n q).toNat = (n p).toNat then Ideal.exp (lp a u q) else 0) := by
  have hs : refLook a u n p = Host.gather gather_S16_S3200x1_S3200_n_0_n_n_0_1_1 (Host.log (refDen a u n)) (refCol n) p := by
    show Scalar.select (refIn n p) _ _ = _
    rw [refIn_at n hn]
    exact if_pos rfl
  rw [hs]
  refine (gather_at (N := 16) (M := 3200) _ _ _ p (ix1 ⟨(n p).toNat, hn p⟩) ?_).trans ?_
  · rw [refCol_at n hn _ p rfl, toInt_of_lt (by have := hn p; omega)]
  · show Ideal.log (refDen a u n _) = _
    rw [refDen_at a u n hu hn]

include hu hn in
/-- The reference's loss. -/
theorem refTerm_at (j : S_.Idx) :
    (refTerm a w u n j : EReal) = ∑ p : S3200.Idx,
      Ideal.exp (lp a u p - Ideal.log (∑ q : S3200.Idx, if (n q).toNat = (n p).toNat then Ideal.exp (lp a u q) else 0)) * w p := by
  refine (Ideal.hostReduceAdd_total reducesTo_S3200_S_d0 (fun b => b.elim0) _ _ j).trans ?_
  show Ideal.ofBits .f32 0x00000000#32 + _ = _
  rw [Ideal.ofBits_zero_f32, zero_add]
  refine Finset.sum_congr rfl fun p _ => ?_
  show Ideal.exp ((refLogp a u p : EReal) - (refLook a u n p : EReal)) * w p = _
  rw [refLogp_at a u hu, refLook_at a u n hu hn]

end Cert.Proof.RefValue
-- ==== Proof.Algebraic.lean ====
/-
  The value: over the extended reals the kernel's program and the reference end with the same loss, from memories that
  agree on the four arguments and whose path and utterance numbers are in range.
-/
module

public import proofs.«01_k».proof.Defs
public import proofs.«01_k».proof.Proof.Frames
public import proofs.«01_k».proof.Proof.LossEq
public import proofs.«01_k».proof.Proof.SegSum
public import proofs.«01_k».proof.Proof.Tail
public import proofs.«01_k».proof.Proof.RefValue

@[expose] public section

noncomputable section

namespace Cert.Proof.Algebraic

open Idealize.ShloMosaic Idealize.SL.Sem
open Cert.Proof.SideIdeal Cert.Proof.RefValue
open scoped BigOperators

/-- A word below sixteen is one of the sixteen words exactly when its number is. -/
theorem word_eq {v : BitVec 32} (k : Fin 16) : v = BitVec.ofNat 32 k.val ↔ v.toNat = k.val := by
  have hk := k.isLt
  constructor
  · intro h
    rw [h, BitVec.toNat_ofNat, Nat.mod_eq_of_lt (by omega)]
  · intro h
    refine BitVec.eq_of_toNat_eq ?_
    rw [h, BitVec.toNat_ofNat, Nat.mod_eq_of_lt (by omega)]

/-- The kernel's sum over the utterances is the reference's sum over the paths. -/
theorem sums_eq {P : Type} [Fintype P] (l w : P → EReal) (n : P → BitVec 32) (hn : ∀ p, (n p).toNat < 16) :
    (∑ k : Fin 16, if 0 < ∑ p, (if n p = BitVec.ofNat 32 k.val then Ideal.exp (l p) else 0) then
        Ideal.div (∑ p, if n p = BitVec.ofNat 32 k.val then Ideal.exp (l p) * w p else 0)
          (∑ p, if n p = BitVec.ofNat 32 k.val then Ideal.exp (l p) else 0) else 0)
      = ∑ p, Ideal.exp (l p - Ideal.log (∑ q, if (n q).toNat = (n p).toNat then Ideal.exp (l q) else 0)) * w p := by
  have key := LossEq.loss_eq (fun p => (⟨(n p).toNat, hn p⟩ : Fin 16)) l w
  simp only [Fin.ext_iff] at key
  simp only [word_eq]
  exact key

variable (m : (ℓ : Loc Cert.KernelIdeal.nD Cert.KernelIdeal.τ Cert.KernelIdeal.sig) → Buf (Elt Ideal) ℓ)

/-- The kernel's result is the reference's term of the same arguments. -/
theorem result_eq (d : Dev Cert.KernelIdeal.nD) (hpre : PreOK (F := Ideal) m)
    (hn : ∀ x : Cert.KernelIdeal.S3200.Idx, (m ((SparseCore.T d).loc Cert.KernelIdeal.main_arg3) x : BitVec 32).toNat < 16) :
    resW (F := Ideal) m d
      = refTerm (m (aLoc d)) (m ((SparseCore.T d).loc Cert.KernelIdeal.main_arg1)) (m (uLoc d)) (m ((SparseCore.T d).loc Cert.KernelIdeal.main_arg3)) := by
  funext j
  refine Eq.trans ?_ (refTerm_at (m (aLoc d)) (m ((SparseCore.T d).loc Cert.KernelIdeal.main_arg1)) (m (uLoc d))
    (m ((SparseCore.T d).loc Cert.KernelIdeal.main_arg3)) (hpre d) hn j).symm
  unfold resW
  refine (Tail.tailOut_at (SegSum.parts m d) (m ((SparseCore.T d).loc Cert.KernelIdeal.main_arg1))
    (m ((SparseCore.T d).loc Cert.KernelIdeal.main_arg3)) _).trans ?_
  have hc : ∀ p : Cert.KernelIdeal.S3200.Idx, ∑ r : Fin 32, SegSum.parts m d (Tail.cell r p) = lp (m (aLoc d)) (m (uLoc d)) p := fun p =>
    SegSum.column_sum m hpre d (p 0) (fun r => Tail.cell r p) (fun _ => rfl) (fun _ => rfl)
  simp only [hc]
  exact sums_eq (P := Cert.KernelIdeal.S3200.Idx) (lp (m (aLoc d)) (m (uLoc d))) (m ((SparseCore.T d).loc Cert.KernelIdeal.main_arg1))
    (m ((SparseCore.T d).loc Cert.KernelIdeal.main_arg3)) hn

/-- From agreeing arguments in range, both programs run to their ends with equal results and unchanged arguments. -/
theorem algebraic : Cert.algebraic_KernelIdeal_ReferenceIdeal := fun m g m' g' hpre hagree =>
  ⟨fun c => resW (F := Ideal) m c,
    (θ_run Cert.KernelIdeal.defs _ _).mono
      (fun _ h c => ⟨(h.1 c).2.2.2.2, (h.1 c).1, (h.1 c).2.1, (h.1 c).2.2.1, (h.1 c).2.2.2.1⟩)
      (run_main (F := Ideal) m g (Frames.ideal_ok m hpre)),
    (θ_run Cert.ReferenceIdeal.defs _ _).mono
      (fun _ h c => ⟨(h c).1.trans (by
        obtain ⟨e0, e1, e2, e3⟩ := hagree c
        rw [e0, e1, e2, e3]
        exact (result_eq m c (Frames.ideal_ok m hpre) (Ids.ids_ok _ _ _ _ (hpre c)).2).symm), (h c).2⟩)
      (Cert.ReferenceIdeal.Value.run (F := Ideal) m' g')⟩

end Cert.Proof.Algebraic
-- ==== Proof.lean ====
/-
  The certificate: the three frames, the idealization (no operation was rewritten), and the equality of the kernel's
  result with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts, by
  exact ⟨Frames.frame_bits, Frames.frame_ideal, Frames.frame_ref, Frames.frame_ref_in_range, trivial, Algebraic.algebraic⟩⟩

end Cert.Proof

end
